-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x8192 : Shape := ⟨2, ![2048, 8192]⟩
abbrev S8x2048 : Shape := ⟨2, ![8, 2048]⟩
abbrev S1024x2048 : Shape := ⟨2, ![1024, 2048]⟩
abbrev S4x2048 : Shape := ⟨2, ![4, 2048]⟩
abbrev S2x2048 : Shape := ⟨2, ![2, 2048]⟩
abbrev S1x2048 : Shape := ⟨2, ![1, 2048]⟩
abbrev S2048 : Shape := ⟨1, ![2048]⟩
abbrev S2048x1 : Shape := ⟨2, ![2048, 1]⟩
abbrev S512x1 : Shape := ⟨2, ![512, 1]⟩
abbrev S512x2048 : Shape := ⟨2, ![512, 2048]⟩
abbrev S512 : Shape := ⟨1, ![512]⟩
abbrev S512x512 : Shape := ⟨2, ![512, 512]⟩
abbrev S8x8192 : Shape := ⟨2, ![8, 8192]⟩
abbrev S256x8192 : Shape := ⟨2, ![256, 8192]⟩
abbrev S4x8192 : Shape := ⟨2, ![4, 8192]⟩
abbrev S2x8192 : Shape := ⟨2, ![2, 8192]⟩
abbrev S1x8192 : Shape := ⟨2, ![1, 8192]⟩
abbrev S8192 : Shape := ⟨1, ![8192]⟩
abbrev S8192x1 : Shape := ⟨2, ![8192, 1]⟩
abbrev S512x8192 : Shape := ⟨2, ![512, 8192]⟩

abbrev nBuf : Space → Nat
  | .hbm => 24
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x8192, .f32⟩
  | .hbm, ⟨3, _⟩ => ⟨S2048x8192, .f32⟩
  | .hbm, ⟨4, _⟩ => ⟨S8x2048, .f32⟩
  | .hbm, ⟨5, _⟩ => ⟨S1x2048, .f32⟩
  | .hbm, ⟨6, _⟩ => ⟨S2048, .f32⟩
  | .hbm, ⟨7, _⟩ => ⟨S2048, .f32⟩
  | .hbm, ⟨8, _⟩ => ⟨S2048x1, .f32⟩
  | .hbm, ⟨9, _⟩ => ⟨S1x2048, .f32⟩
  | .hbm, ⟨10, _⟩ => ⟨S1x2048, .i32⟩
  | .hbm, ⟨11, _⟩ => ⟨S2048x1, .i32⟩
  | .hbm, ⟨12, _⟩ => ⟨S2048, .i32⟩
  | .hbm, ⟨13, _⟩ => ⟨S8192x2048, .f32⟩
  | .hbm, ⟨14, _⟩ => ⟨S8x8192, .f32⟩
  | .hbm, ⟨15, _⟩ => ⟨S1x8192, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S1x8192, .f32⟩
  | .hbm, ⟨20, _⟩ => ⟨S1x8192, .i32⟩
  | .hbm, ⟨21, _⟩ => ⟨S8192x1, .i32⟩
  | .hbm, ⟨22, _⟩ => ⟨S8192, .i32⟩
  | .hbm, ⟨23, _⟩ => ⟨S2048x8192, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S8x2048, .f32⟩
  | .local _ .vmem, ⟨5, _⟩ => ⟨S512x1, .f32⟩
  | .local _ .vmem, ⟨6, _⟩ => ⟨S512x1, .f32⟩
  | .local _ .vmem, ⟨7, _⟩ => ⟨S1x2048, .f32⟩
  | .local _ .vmem, ⟨8, _⟩ => ⟨S1x2048, .i32⟩
  | .local _ .vmem, ⟨9, _⟩ => ⟨S512x1, .i32⟩
  | .local _ .vmem, ⟨10, _⟩ => ⟨S512x1, .i32⟩
  | .local _ .vmem, ⟨11, _⟩ => ⟨S512x1, .i32⟩
  | .local _ .vmem, ⟨12, _⟩ => ⟨S512x1, .i32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S256x8192, .f32⟩
  | .local _ .vmem, ⟨19, _⟩ => ⟨S256x8192, .f32⟩
  | .local _ .vmem, ⟨20, _⟩ => ⟨S256x8192, .f32⟩
  | .local _ .vmem, ⟨21, _⟩ => ⟨S256x8192, .f32⟩
  | .local _ .vmem, ⟨22, _⟩ => ⟨S8x8192, .f32⟩
  | .local _ .vmem, ⟨23, _⟩ => ⟨S512x1, .f32⟩
  | .local _ .vmem, ⟨24, _⟩ => ⟨S512x1, .f32⟩
  | .local _ .vmem, ⟨25, _⟩ => ⟨S1x8192, .f32⟩
  | .local _ .vmem, ⟨26, _⟩ => ⟨S1x8192, .i32⟩
  | .local _ .vmem, ⟨27, _⟩ => ⟨S512x1, .i32⟩
  | .local _ .vmem, ⟨28, _⟩ => ⟨S512x1, .i32⟩
  | .local _ .vmem, ⟨29, _⟩ => ⟨S512x1, .i32⟩
  | .local _ .vmem, ⟨30, _⟩ => ⟨S512x1, .i32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![16, 4, 4], ![false, false, false]⟩

def k2_cond2 (i : grid2.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, false, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x8192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8x8192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x8192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8192 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![4, 16, 16], ![false, false, false]⟩

def k5_cond2 (i : grid5.Coords) : BitVec 1 :=
  let arg2 : BitVec 32 := BitVec.ofNat 32 (i 2).val
  let c15_i32 : BitVec 32 := 15#32
  let v20 : BitVec 1 := Scalar.cmpi .eq arg2 c15_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, false, true]

abbrev stage5_1 : Fin 2 → Memref sig .tc .vmem S512x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ReferenceIdeal.lean ====
abbrev S8192x2048 : Shape := ⟨2, ![8192, 2048]⟩
abbrev S2048x8192 : Shape := ⟨2, ![2048, 8192]⟩
abbrev S_ : Shape := ⟨0, ![]⟩
abbrev S2048 : Shape := ⟨1, ![2048]⟩
abbrev S1024 : Shape := ⟨1, ![1024]⟩
abbrev S512 : Shape := ⟨1, ![512]⟩
abbrev S512x1 : Shape := ⟨2, ![512, 1]⟩
abbrev S512x4 : Shape := ⟨2, ![512, 4]⟩
abbrev S2048x1 : Shape := ⟨2, ![2048, 1]⟩
abbrev S8192 : Shape := ⟨1, ![8192]⟩
abbrev S4096 : Shape := ⟨1, ![4096]⟩
abbrev S2048x4 : Shape := ⟨2, ![2048, 4]⟩
abbrev S8192x1 : Shape := ⟨2, ![8192, 1]⟩
abbrev S8192x512x4 : Shape := ⟨3, ![8192, 512, 4]⟩
abbrev S8192x512x2 : Shape := ⟨3, ![8192, 512, 2]⟩
abbrev S8192x512x2x1 : Shape := ⟨4, ![8192, 512, 2, 1]⟩
abbrev S1x1x1x4 : Shape := ⟨4, ![1, 1, 1, 4]⟩
abbrev S8192x512x2x4 : Shape := ⟨4, ![8192, 512, 2, 4]⟩
abbrev S2048x2048x4 : Shape := ⟨3, ![2048, 2048, 4]⟩
abbrev S2048x2048x2 : Shape := ⟨3, ![2048, 2048, 2]⟩
abbrev S2048x2048x2x1 : Shape := ⟨4, ![2048, 2048, 2, 1]⟩
abbrev S2048x2048x2x4 : Shape := ⟨4, ![2048, 2048, 2, 4]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x8192, .f32⟩
  | .hbm, ⟨3, _⟩ => ⟨S2048x8192, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .i32⟩
  | .hbm, ⟨12, _⟩ => ⟨S2048, .f32⟩
  | .hbm, ⟨13, _⟩ => ⟨S2048, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x1, .i32⟩
  | .hbm, ⟨23, _⟩ => ⟨S512x1, .i32⟩
  | .hbm, ⟨24, _⟩ => ⟨S512x1, .i32⟩
  | .hbm, ⟨25, _⟩ => ⟨S512x4, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S8192x2048, .f32⟩
  | .hbm, ⟨36, _⟩ => ⟨S2048x8192, .f32⟩
  | .hbm, ⟨37, _⟩ => ⟨S2048x8192, .f32⟩
  | .hbm, ⟨38, _⟩ => ⟨S2048x8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .i32⟩
  | .hbm, ⟨44, _⟩ => ⟨S8192, .f32⟩
  | .hbm, ⟨45, _⟩ => ⟨S8192, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S2048x1, .i32⟩
  | .hbm, ⟨54, _⟩ => ⟨S2048x1, .i32⟩
  | .hbm, ⟨55, _⟩ => ⟨S2048x1, .i32⟩
  | .hbm, ⟨56, _⟩ => ⟨S2048x1, .i32⟩
  | .hbm, ⟨57, _⟩ => ⟨S2048x4, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S2048x8192, .f32⟩
  | .hbm, ⟨68, _⟩ => ⟨S8192x512x4, .f32⟩
  | .hbm, ⟨69, _⟩ => ⟨S8192x512x4, .f32⟩
  | .hbm, ⟨70, _⟩ => ⟨S8192x512x2, .f32⟩
  | .hbm, ⟨71, _⟩ => ⟨S8192x512x2, .i32⟩
  | .hbm, ⟨72, _⟩ => ⟨S8192x512x2x1, .i32⟩
  | .hbm, ⟨73, _⟩ => ⟨S1x1x1x4, .i32⟩
  | .hbm, ⟨74, _⟩ => ⟨S8192x512x2x4, .i32⟩
  | .hbm, ⟨75, _⟩ => ⟨S8192x512x2x4, .i32⟩
  | .hbm, ⟨76, _⟩ => ⟨S8192x512x2x4, .i1⟩
  | .hbm, ⟨77, _⟩ => ⟨S8192x512x2x4, .f32⟩
  | .hbm, ⟨78, _⟩ => ⟨S_, .f32⟩
  | .hbm, ⟨79, _⟩ => ⟨S8192x512x4, .f32⟩
  | .hbm, ⟨80, _⟩ => ⟨S8192x512x4, .f32⟩
  | .hbm, ⟨81, _⟩ => ⟨S8192x2048, .f32⟩
  | .hbm, ⟨82, _⟩ => ⟨S2048x2048x4, .f32⟩
  | .hbm, ⟨83, _⟩ => ⟨S2048x2048x4, .f32⟩
  | .hbm, ⟨84, _⟩ => ⟨S2048x2048x2, .f32⟩
  | .hbm, ⟨85, _⟩ => ⟨S2048x2048x2, .i32⟩
  | .hbm, ⟨86, _⟩ => ⟨S2048x2048x2x1, .i32⟩
  | .hbm, ⟨87, _⟩ => ⟨S1x1x1x4, .i32⟩
  | .hbm, ⟨88, _⟩ => ⟨S2048x2048x2x4, .i32⟩
  | .hbm, ⟨89, _⟩ => ⟨S2048x2048x2x4, .i32⟩
  | .hbm, ⟨90, _⟩ => ⟨S2048x2048x2x4, .i1⟩
  | .hbm, ⟨91, _⟩ => ⟨S2048x2048x2x4, .f32⟩
  | .hbm, ⟨92, _⟩ => ⟨S_, .f32⟩
  | .hbm, ⟨93, _⟩ => ⟨S2048x2048x4, .f32⟩
  | .hbm, ⟨94, _⟩ => ⟨S2048x2048x4, .f32⟩
  | .hbm, ⟨95, _⟩ => ⟨S2048x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call2_v0 : Ref sig .tc := ⟨.hbm, 43, rfl⟩
abbrev main_call2_v1_0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_2 : Ref sig .tc := ⟨.hbm, 59, rfl⟩
abbrev main_v47 : Ref sig .tc := ⟨.hbm, 60, rfl⟩
abbrev main_v48 : Ref sig .tc := ⟨.hbm, 61, rfl⟩
abbrev main_c_3 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_values : Ref sig .tc := ⟨.hbm, 70, rfl⟩
abbrev main_indices : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v56 : Ref sig .tc := ⟨.hbm, 77, rfl⟩
abbrev main_cst_4 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_values_5 : Ref sig .tc := ⟨.hbm, 84, rfl⟩
abbrev main_indices_6 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_v62 : Ref sig .tc := ⟨.hbm, 91, rfl⟩
abbrev main_cst_7 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]
-- ==== Proof.R0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents when the region is entered. -/
variable (V : (c : Dev nD) → (b : Ref sig .tc) → Buf (Elt F) ((c : Thread nD τ).loc b))

/-! # REGION 0 of @main: custom_call 0, `cc0__norms_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 7#32)) 0#32) = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, e0]
    word_cmp
   : ∀ t : Fin grid0.N, cond0_1 (grid0.coords t) ↔ t.val % 8 = 7)

/-! ## The kernel body on any staging memrefs -/

/-- One staging buffer of output window 2, through which its contents are stated (`View.read_writes_of_cover`: the
    choice does not matter). -/
abbrev VO0_2 : View sig .tc .vmem S8x2048 .f32 := (Memref.whole cc0_stg2_0 : Memref sig .tc .vmem S8x2048 .f32).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x2048 .f32 := win0_2.stage (cfg0.slots t 2)
abbrev hs0_2 (t : Fin cfg0.N) : (ms0_2 t).IsWhole := hstage0_2 ((cfg0.slots t 2).cast nbuf0_2)

set_option maxHeartbeats 1776000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: each branch is decided by the case's hypotheses `hc·`, and the pieces are those that the execution of the body leaves. -/
noncomputable def kernelRun0_A (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : cond0_0 i) (hc1 : ¬cond0_1 i)
    (x0 : Vec F S1024x2048 .f32) (x1 : Vec F S1024x2048 .f32) :
    { L2 : List (View.Piece (Elt F) S8x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__norms_body i arg1 harg1 arg2 harg2 arg3 harg3) K } := by
  refine ⟨?_, fun E K => ?run⟩
  case run =>
    simp only [cc0__norms_body_eq_skeleton]; unfold cc0__norms_body_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case A's pieces for output 2 tile its block (129 stores of `S8x2048`), so they cover it. -/
theorem cover0_A_2 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : cond0_0 i) (hc1 : ¬cond0_1 i)
    (x0 : Vec F S1024x2048 .f32) (x1 : Vec F S1024x2048 .f32) (y : S8x2048.Idx) :
    ∃ pc ∈ (kernelRun0_A c i arg1 harg1 arg2 harg2 arg3 harg3 hc0 hc1 x0 x1).1, y ∈ pc.1.set :=
  View.cover_of_tiledL (kernelRun0_A c i arg1 harg1 arg2 harg2 arg3 harg3 hc0 hc1 x0 x1).1 S8x2048.size (by sl_kernel_rfl) y

/-- What case A leaves in output 2's staging buffer: its pieces read back over junk. -/
def out0_A_2 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : cond0_0 i) (hc1 : ¬cond0_1 i)
    (x0 : Vec F S1024x2048 .f32) (x1 : Vec F S1024x2048 .f32) : Vec F S8x2048 .f32 :=
  VO0_2.read (Elt F) (VO0_2.writes (Elt F) VO0_2.junk (kernelRun0_A c i arg1 harg1 arg2 harg2 arg3 harg3 hc0 hc1 x0 x1).1)

set_option maxHeartbeats 1768000 in
/-- What the body's stores leave in each output's staging memref, as pieces (last first) IN CASE B (`scf.if` 0 not taken, `scf.if` 1 not taken: points 1, 2, 3, 4, 5, 6), WITH the
    proof that on whole staging memrefs — the inputs' at their contents, the outputs it reads before covering (2) at their running contents `xo·`, the other outputs' at
    anything, the body runs to the continuation holding the inputs' as they were,
    each output's buffer with its pieces written: each branch is decided by the case's hypotheses `hc·`, and the pieces are those that the execution of the body leaves. -/
noncomputable def kernelRun0_B (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : ¬cond0_0 i) (hc1 : ¬cond0_1 i)
    (x0 : Vec F S1024x2048 .f32) (x1 : Vec F S1024x2048 .f32) (xo2 : Vec F S8x2048 .f32) :
    { L2 : List (View.Piece (Elt F) S8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__norms_body i arg1 harg1 arg2 harg2 arg3 harg3) K } := by
  refine ⟨?_, fun E K => ?run⟩
  case run =>
    simp only [cc0__norms_body_eq_skeleton]; unfold cc0__norms_body_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case B's pieces for output 2 tile its block (128 stores of `S8x2048`), so they cover it. -/
theorem cover0_B_2 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : ¬cond0_0 i) (hc1 : ¬cond0_1 i)
    (x0 : Vec F S1024x2048 .f32) (x1 : Vec F S1024x2048 .f32) (xo2 : Vec F S8x2048 .f32) (y : S8x2048.Idx) :
    ∃ pc ∈ (kernelRun0_B c i arg1 harg1 arg2 harg2 arg3 harg3 hc0 hc1 x0 x1 xo2).1, y ∈ pc.1.set :=
  View.cover_of_tiledL (kernelRun0_B c i arg1 harg1 arg2 harg2 arg3 harg3 hc0 hc1 x0 x1 xo2).1 S8x2048.size (by sl_kernel_rfl) y

/-- What case B leaves in output 2's staging buffer: its pieces read back over junk. -/
def out0_B_2 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : ¬cond0_0 i) (hc1 : ¬cond0_1 i)
    (x0 : Vec F S1024x2048 .f32) (x1 : Vec F S1024x2048 .f32) (xo2 : Vec F S8x2048 .f32) : Vec F S8x2048 .f32 :=
  VO0_2.read (Elt F) (VO0_2.writes (Elt F) VO0_2.junk (kernelRun0_B c i arg1 harg1 arg2 harg2 arg3 harg3 hc0 hc1 x0 x1 xo2).1)

set_option maxHeartbeats 1780000 in
/-- What the body's stores leave in each output's staging memref, as pieces (last first) IN CASE C (`scf.if` 0 not taken, `scf.if` 1 taken: points 7), WITH the
    proof that on whole staging memrefs — the inputs' at their contents, the outputs it reads before covering (2) at their running contents `xo·`, the other outputs' at
    anything, the body runs to the continuation holding the inputs' as they were,
    each output's buffer with its pieces written: each branch is decided by the case's hypotheses `hc·`, and the pieces are those that the execution of the body leaves. -/
noncomputable def kernelRun0_C (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : ¬cond0_0 i) (hc1 : cond0_1 i)
    (x0 : Vec F S1024x2048 .f32) (x1 : Vec F S1024x2048 .f32) (xo2 : Vec F S8x2048 .f32) :
    { L2 : List (View.Piece (Elt F) S8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__norms_body i arg1 harg1 arg2 harg2 arg3 harg3) K } := by
  refine ⟨?_, fun E K => ?run⟩
  case run =>
    simp only [cc0__norms_body_eq_skeleton]; unfold cc0__norms_body_skel
    simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case C's pieces for output 2 are of SEVERAL sizes (129 stores of `S1x2048`, `S8x2048`): cut into blocks of `![1, 2048]` they tile its block, so they cover it. -/
theorem cover0_C_2 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : ¬cond0_0 i) (hc1 : cond0_1 i)
    (x0 : Vec F S1024x2048 .f32) (x1 : Vec F S1024x2048 .f32) (xo2 : Vec F S8x2048 .f32) (y : S8x2048.Idx) :
    ∃ pc ∈ (kernelRun0_C c i arg1 harg1 arg2 harg2 arg3 harg3 hc0 hc1 x0 x1 xo2).1, y ∈ pc.1.set :=
  View.cover_of_tiledBy (kernelRun0_C c i arg1 harg1 arg2 harg2 arg3 harg3 hc0 hc1 x0 x1 xo2).1 ![1, 2048] (by sl_kernel_rfl) y

/-- What case C leaves in output 2's staging buffer: its pieces read back over junk. -/
def out0_C_2 (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole) (hc0 : ¬cond0_0 i) (hc1 : cond0_1 i)
    (x0 : Vec F S1024x2048 .f32) (x1 : Vec F S1024x2048 .f32) (xo2 : Vec F S8x2048 .f32) : Vec F S8x2048 .f32 :=
  VO0_2.read (Elt F) (VO0_2.writes (Elt F) VO0_2.junk (kernelRun0_C c i arg1 harg1 arg2 harg2 arg3 harg3 hc0 hc1 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case. -/
def outsAt0 (c : Dev nD) : (n : ℕ) → n < cfg0.N → Vec F S8x2048 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 8 = 0 then
      if h1 : (n + 1) % 8 = 7 then
        False.elim (by have hN : n + 1 < 8 := lt_of_lt_of_eq hn (show cfg0.N = 8 from N_0); omega)
      else
        out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 8 = 7 then
        out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn))
      else
        out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn))

/-- `outsAt0` at a point of case A: that case's contents. -/
theorem outsAt0_A (c : Dev nD) (t : Fin cfg0.N) (h0 : t.val % 8 = 0) (h1 : ¬t.val % 8 = 7) :
    outsAt0 V c t.val t.isLt = out0_A_2 c (grid0.coords t) (ms0_0 t) (hs0_0 t) (ms0_1 t) (hs0_1 t) (ms0_2 t) (hs0_2 t) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = out0_B_2 c (grid0.coords t) (ms0_0 t) (hs0_0 t) (ms0_1 t) (hs0_1 t) (ms0_2 t) (hs0_2 t) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = out0_C_2 c (grid0.coords t) (ms0_0 t) (hs0_0 t) (ms0_1 t) (hs0_1 t) (ms0_2 t) (hs0_2 t) (fun h => h0 ((hcond0_0 t).mp h)) ((hcond0_1 t).mpr h1) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point of case B output 2's current staging buffer holds what the body left at the point before: the point is
    not the first, the buffer was not written back between (`flush0_2`), the window is live and uncut. -/
theorem before0_2_B (c : Dev nD) (t : Fin cfg0.N) (h0 : ¬t.val % 8 = 0) (h1 : ¬t.val % 8 = 7) (d) :
    (dat0 V c).before 2 t d = (outsAt0 V c (t.val - 1) (Nat.lt_of_le_of_lt (Nat.sub_le _ _) t.isLt)) := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]
/-- At a point of case C output 2's current staging buffer holds what the body left at the point before: the point is
    not the first, the buffer was not written back between (`flush0_2`), the window is live and uncut. -/
theorem before0_2_C (c : Dev nD) (t : Fin cfg0.N) (h0 : ¬t.val % 8 = 0) (h1 : t.val % 8 = 7) (d) :
    (dat0 V c).before 2 t d = (outsAt0 V c (t.val - 1) (Nat.lt_of_le_of_lt (Nat.sub_le _ _) t.isLt)) := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1200000 in
/-- The body at any point: the inputs' memrefs hold their blocks (`before0_W`); the closed forms say which case the point is in, an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 8 := lt_of_lt_of_eq t.isLt (show cfg0.N = 8 from N_0)
  by_cases h0 : t.val % 8 = 0
  · by_cases h1 : t.val % 8 = 7
    · exfalso; omega
    · rw [outsAt0_A V c t h0 h1]
      unfold out0_A_2
      iintro ⟨HΦ, Ho, ⟨%d0, H0⟩, ⟨%d1, H1⟩, ⟨%d2, H2⟩⟩
      iapply ((kernelRun0_A c (grid0.coords t) _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _)
  · by_cases h1 : t.val % 8 = 7
    · rw [outsAt0_C V c t h0 h1]
      simp only [before0_2_C V c t h0 h1]
      unfold out0_C_2
      iintro ⟨HΦ, Ho, ⟨%d0, H0⟩, ⟨%d1, H1⟩, ⟨%d2, H2⟩⟩
      iapply ((kernelRun0_C c (grid0.coords t) _ _ _ _ _ _ (fun h => h0 ((hcond0_0 t).mp h)) ((hcond0_1 t).mpr h1) (iblk0 V c 0 t) (iblk0 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _)
    · rw [outsAt0_B V c t h0 h1]
      simp only [before0_2_B V c t h0 h1]
      unfold out0_B_2
      iintro ⟨HΦ, Ho, ⟨%d0, H0⟩, ⟨%d1, H1⟩, ⟨%d2, H2⟩⟩
      iapply ((kernelRun0_B c (grid0.coords t) _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run
-- ==== Proof.R1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents when the region is entered. -/
variable (V : (c : Dev nD) → (b : Ref sig .tc) → Buf (Elt F) ((c : Thread nD τ).loc b))

/-! # REGION 1 of @main: custom_call 1, `cc1__rank_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 4 = 0 :=
  (fun t => by
    have ht : t.val < 4 := Nat.lt_of_lt_of_eq t.isLt N_1
    have e0 : (grid1.coords t 0).val = t.val / 1 % 4 := Pipeline.Grid.coords_val t 0 (by decide) rfl
    simp only [cond1_0, e0]
    word_cmp
   : ∀ t : Fin grid1.N, cond1_0 (grid1.coords t) ↔ t.val % 4 = 0)

/-! ## The kernel body on any staging memrefs -/

/-- One staging buffer of output window 2, through which its contents are stated (`View.read_writes_of_cover`: the
    choice does not matter). -/
abbrev VO1_2 : View sig .tc .vmem S1x2048 .i32 := (Memref.whole cc1_stg2_0 : Memref sig .tc .vmem S1x2048 .i32).view
/-- One staging buffer of output window 3, through which its contents are stated (`View.read_writes_of_cover`: the
    choice does not matter). -/
abbrev VO1_3 : View sig .tc .vmem S512x1 .i32 := (Memref.whole cc1_stg3_0 : Memref sig .tc .vmem S512x1 .i32).view
/-- Each window's current staging memref at point `t`, spelled as the pipeline passes it (`bodyAt1`), and its wholeness. -/
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .i32 := win1_3.stage (cfg1.slots t 3)
abbrev hs1_3 (t : Fin cfg1.N) : (ms1_3 t).IsWhole := hstage1_3 ((cfg1.slots t 3).cast nbuf1_3)

set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: each branch is decided by the case's hypotheses `hc·`, and the pieces are those that the execution of the body leaves. -/
noncomputable def kernelRun1_A (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : cond1_0 i)
    (x0 : Vec F S512x1 .f32) (x1 : Vec F S1x2048 .f32) :
    Σ' (L2 : List (View.Piece (Elt F) S1x2048 .i32)), { L3 : List (View.Piece (Elt F) S512x1 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__rank_body i arg1 harg1 arg2 harg2 arg3 harg3 arg4 harg4) K } := by
  refine ⟨?_, ?_, fun E K => ?run⟩
  case run =>
    simp only [cc1__rank_body_eq_skeleton]; unfold cc1__rank_body_skel
    simp only [k1_part1_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block (2 stores of `S1x2048`), so they cover it. -/
theorem cover1_A_2 (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : cond1_0 i)
    (x0 : Vec F S512x1 .f32) (x1 : Vec F S1x2048 .f32) (y : S1x2048.Idx) :
    ∃ pc ∈ (kernelRun1_A c i arg1 harg1 arg2 harg2 arg3 harg3 arg4 harg4 hc0 x0 x1).1, y ∈ pc.1.set :=
  View.cover_of_tiledL (kernelRun1_A c i arg1 harg1 arg2 harg2 arg3 harg3 arg4 harg4 hc0 x0 x1).1 S1x2048.size (by sl_kernel_rfl) y

/-- What case A leaves in output 2's staging buffer: its pieces read back over junk. -/
def out1_A_2 (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : cond1_0 i)
    (x0 : Vec F S512x1 .f32) (x1 : Vec F S1x2048 .f32) : Vec F S1x2048 .i32 :=
  VO1_2.read (Elt F) (VO1_2.writes (Elt F) VO1_2.junk (kernelRun1_A c i arg1 harg1 arg2 harg2 arg3 harg3 arg4 harg4 hc0 x0 x1).1)

/-- Case A's pieces for output 3 tile its block (1 store of `S512x1`), so they cover it. -/
theorem cover1_A_3 (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : cond1_0 i)
    (x0 : Vec F S512x1 .f32) (x1 : Vec F S1x2048 .f32) (y : S512x1.Idx) :
    ∃ pc ∈ (kernelRun1_A c i arg1 harg1 arg2 harg2 arg3 harg3 arg4 harg4 hc0 x0 x1).2.1, y ∈ pc.1.set :=
  View.cover_of_tiledL (kernelRun1_A c i arg1 harg1 arg2 harg2 arg3 harg3 arg4 harg4 hc0 x0 x1).2.1 S512x1.size (by sl_kernel_rfl) y

/-- What case A leaves in output 3's staging buffer: its pieces read back over junk. -/
def out1_A_3 (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : cond1_0 i)
    (x0 : Vec F S512x1 .f32) (x1 : Vec F S1x2048 .f32) : Vec F S512x1 .i32 :=
  VO1_3.read (Elt F) (VO1_3.writes (Elt F) VO1_3.junk (kernelRun1_A c i arg1 harg1 arg2 harg2 arg3 harg3 arg4 harg4 hc0 x0 x1).2.1)

set_option maxHeartbeats 1000000 in
/-- What the body's stores leave in each output's staging memref, as pieces (last first) IN CASE B (`scf.if` 0 not taken: points 1, 2, 3), WITH the
    proof that on whole staging memrefs — the inputs' at their contents, the outputs it reads before covering (2) at their running contents `xo·`, the other outputs' at
    anything, the body runs to the continuation holding the inputs' as they were,
    each output's buffer with its pieces written: each branch is decided by the case's hypotheses `hc·`, and the pieces are those that the execution of the body leaves. -/
noncomputable def kernelRun1_B (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : ¬cond1_0 i)
    (x0 : Vec F S512x1 .f32) (x1 : Vec F S1x2048 .f32) (xo2 : Vec F S1x2048 .i32) :
    Σ' (L2 : List (View.Piece (Elt F) S1x2048 .i32)), { L3 : List (View.Piece (Elt F) S512x1 .i32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__rank_body i arg1 harg1 arg2 harg2 arg3 harg3 arg4 harg4) K } := by
  refine ⟨?_, ?_, fun E K => ?run⟩
  case run =>
    simp only [cc1__rank_body_eq_skeleton]; unfold cc1__rank_body_skel
    simp only [k1_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block (1 store of `S1x2048`), so they cover it. -/
theorem cover1_B_2 (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : ¬cond1_0 i)
    (x0 : Vec F S512x1 .f32) (x1 : Vec F S1x2048 .f32) (xo2 : Vec F S1x2048 .i32) (y : S1x2048.Idx) :
    ∃ pc ∈ (kernelRun1_B c i arg1 harg1 arg2 harg2 arg3 harg3 arg4 harg4 hc0 x0 x1 xo2).1, y ∈ pc.1.set :=
  View.cover_of_tiledL (kernelRun1_B c i arg1 harg1 arg2 harg2 arg3 harg3 arg4 harg4 hc0 x0 x1 xo2).1 S1x2048.size (by sl_kernel_rfl) y

/-- What case B leaves in output 2's staging buffer: its pieces read back over junk. -/
def out1_B_2 (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : ¬cond1_0 i)
    (x0 : Vec F S512x1 .f32) (x1 : Vec F S1x2048 .f32) (xo2 : Vec F S1x2048 .i32) : Vec F S1x2048 .i32 :=
  VO1_2.read (Elt F) (VO1_2.writes (Elt F) VO1_2.junk (kernelRun1_B c i arg1 harg1 arg2 harg2 arg3 harg3 arg4 harg4 hc0 x0 x1 xo2).1)

/-- Case B's pieces for output 3 tile its block (1 store of `S512x1`), so they cover it. -/
theorem cover1_B_3 (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : ¬cond1_0 i)
    (x0 : Vec F S512x1 .f32) (x1 : Vec F S1x2048 .f32) (xo2 : Vec F S1x2048 .i32) (y : S512x1.Idx) :
    ∃ pc ∈ (kernelRun1_B c i arg1 harg1 arg2 harg2 arg3 harg3 arg4 harg4 hc0 x0 x1 xo2).2.1, y ∈ pc.1.set :=
  View.cover_of_tiledL (kernelRun1_B c i arg1 harg1 arg2 harg2 arg3 harg3 arg4 harg4 hc0 x0 x1 xo2).2.1 S512x1.size (by sl_kernel_rfl) y

/-- What case B leaves in output 3's staging buffer: its pieces read back over junk. -/
def out1_B_3 (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole) (hc0 : ¬cond1_0 i)
    (x0 : Vec F S512x1 .f32) (x1 : Vec F S1x2048 .f32) (xo2 : Vec F S1x2048 .i32) : Vec F S512x1 .i32 :=
  VO1_3.read (Elt F) (VO1_3.writes (Elt F) VO1_3.junk (kernelRun1_B c i arg1 harg1 arg2 harg2 arg3 harg3 arg4 harg4 hc0 x0 x1 xo2).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case. -/
def outsAt1 (c : Dev nD) : (n : ℕ) → n < cfg1.N → Vec F S1x2048 .i32 × Vec F S512x1 .i32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩))
  | n + 1, hn =>
    if h0 : (n + 1) % 4 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1)

/-- `outsAt1` at a point of case A: that case's contents. -/
theorem outsAt1_A (c : Dev nD) (t : Fin cfg1.N) (h0 : t.val % 4 = 0) :
    outsAt1 V c t.val t.isLt = (out1_A_2 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t), out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1, out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point of case B output 2's current staging buffer holds what the body left at the point before: the point is
    not the first, the buffer was not written back between (`flush1_2`), the window is live and uncut. -/
theorem before1_2_B (c : Dev nD) (t : Fin cfg1.N) (h0 : ¬t.val % 4 = 0) (d) :
    (dat1 V c).before 2 t d = (outsAt1 V c (t.val - 1) (Nat.lt_of_le_of_lt (Nat.sub_le _ _) t.isLt)).1 := by
  have hN : t.val < 4 := lt_of_lt_of_eq t.isLt (show cfg1.N = 4 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks (`before1_W`); the closed forms say which case the point is in, an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  have hN : t.val < 4 := lt_of_lt_of_eq t.isLt (show cfg1.N = 4 from N_1)
  by_cases h0 : t.val % 4 = 0
  · rw [outsAt1_A V c t h0]
    unfold out1_A_2 out1_A_3; (try dsimp only)
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _)
    unfold owns; iexists _; isplitr
    swap; · iexact H3
    ipureintro; exact View.read_writes_of_cover _ _ _ _ _ (cover1_A_3 c _ _ _ _ _ _ _ _ _ _ _ _)
  · rw [outsAt1_B V c t h0]
    simp only [before1_2_B V c t h0]
    unfold out1_B_2 out1_B_3; (try dsimp only)
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) _).2.2 Set.univ _)
    isplitl [H0]; · iexact H0
    isplitl [H1]; · iexact H1
    isplitl [H2]; · iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _)
    unfold owns; iexists _; isplitr
    swap; · iexact H3
    ipureintro; exact View.read_writes_of_cover _ _ _ _ _ (cover1_B_3 c _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run
-- ==== Proof.R2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents when the region is entered. -/
variable (V : (c : Dev nD) → (b : Ref sig .tc) → Buf (Elt F) ((c : Thread nD τ).loc b))

/-! # REGION 2 of @main: custom_call 2, `cc2__gather_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 2).val) 0#32)) 0#32) = 1#1
/-- It holds at the points ≡ 0 (mod 4) — by arithmetic of the point. -/
theorem hcond2_0 : ∀ t : Fin cfg2.N, cond2_0 (grid2.coords t) ↔ t.val % 4 = 0 :=
  (fun t => by
    have ht : t.val < 256 := Nat.lt_of_lt_of_eq t.isLt N_2
    have e0 : (grid2.coords t 0).val = t.val / 16 % 16 := Pipeline.Grid.coords_val t 0 (by decide) rfl
    have e1 : (grid2.coords t 1).val = t.val / 4 % 4 := Pipeline.Grid.coords_val t 1 (by decide) rfl
    have e2 : (grid2.coords t 2).val = t.val / 1 % 4 := Pipeline.Grid.coords_val t 2 (by decide) rfl
    simp only [cond2_0, e0, e1, e2]
    word_cmp
   : ∀ t : Fin grid2.N, cond2_0 (grid2.coords t) ↔ t.val % 4 = 0)

/-- The condition of the body's `scf.if` 1 (`k2_h2`), from the grid coordinates (the skeleton's scalar
    chain substituted). -/
abbrev cond2_1 (i : grid2.Coords) : Prop := k2_cond2 i = 1#1
/-- It holds at the points ≡ 3 (mod 4) — by arithmetic of the point. -/
theorem hcond2_1 : ∀ t : Fin cfg2.N, cond2_1 (grid2.coords t) ↔ t.val % 4 = 3 :=
  (fun t => by
    have ht : t.val < 256 := Nat.lt_of_lt_of_eq t.isLt N_2
    have e0 : (grid2.coords t 0).val = t.val / 16 % 16 := Pipeline.Grid.coords_val t 0 (by decide) rfl
    have e1 : (grid2.coords t 1).val = t.val / 4 % 4 := Pipeline.Grid.coords_val t 1 (by decide) rfl
    have e2 : (grid2.coords t 2).val = t.val / 1 % 4 := Pipeline.Grid.coords_val t 2 (by decide) rfl
    simp only [cond2_1, k2_cond2, e0, e1, e2]
    word_cmp
   : ∀ t : Fin grid2.N, cond2_1 (grid2.coords t) ↔ t.val % 4 = 3)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- At the points of case A the printed configuration (`Cfg.idle`) calls output 2 idle: the case stores nothing into it. -/
theorem idleAt2_2_A : ∀ t : Fin cfg2.N, cond2_0 (grid2.coords t) → ¬cond2_1 (grid2.coords t) → cfg2.idle 2 (grid2.coords t) = true := by decide +kernel
/-- At the points of case A the pipeline does not write output 2's block back. -/
theorem noFlush2_2_A : ∀ t : Fin cfg2.N, cond2_0 (grid2.coords t) → ¬cond2_1 (grid2.coords t) → (cfg2.win 2).flush t = false := by decide +kernel
/-- At the points of case B the printed configuration (`Cfg.idle`) calls output 2 idle: the case stores nothing into it. -/
theorem idleAt2_2_B : ∀ t : Fin cfg2.N, ¬cond2_0 (grid2.coords t) → ¬cond2_1 (grid2.coords t) → cfg2.idle 2 (grid2.coords t) = true := by decide +kernel
/-- At the points of case B the pipeline does not write output 2's block back. -/
theorem noFlush2_2_B : ∀ t : Fin cfg2.N, ¬cond2_0 (grid2.coords t) → ¬cond2_1 (grid2.coords t) → (cfg2.win 2).flush t = false := by decide +kernel
/-- At the points of case C the printed configuration (`Cfg.idle`) calls output 2 live: the case stores into it. -/
theorem liveAt2_2_C : ∀ t : Fin cfg2.N, ¬cond2_0 (grid2.coords t) → cond2_1 (grid2.coords t) → cfg2.idle 2 (grid2.coords t) = false := by decide +kernel

/-! ## The kernel body on any staging memrefs -/

/-- One staging buffer of output window 2, through which its contents are stated (`View.read_writes_of_cover`: the
    choice does not matter). -/
abbrev VO2_2 : View sig .tc .vmem S512x512 .f32 := (Memref.whole cc2_stg2_0 : Memref sig .tc .vmem S512x512 .f32).view
/-- Each window's current staging memref at point `t`, spelled as the pipeline passes it (`bodyAt2`), and its wholeness. -/
abbrev ms2_0 (t : Fin cfg2.N) : Memref sig .tc .vmem S512x1 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
/-- The scratch operands: whole scoped buffers of the kernel's own, passed beside the windows. -/
abbrev scM2_0 : Memref sig .tc .vmem S512x512 .f32 := Memref.whole cc2_scratch0
/-- The scratch `arg6` the kernel carries between points, as a view: what it holds is stated through it. -/
abbrev VS2_0 : View sig .tc .vmem S512x512 .f32 := scM2_0.view

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

/-- The frame kit's invariant with the scratch operands as memrefs owned at some contents: what the body obligation hands the run and takes back. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

set_option maxHeartbeats 1000000 in
/-- What the body's stores leave in each output's staging memref, as pieces (last first) IN CASE A (`scf.if` 0 taken, `scf.if` 1 not taken: points 0, 4, … 252: 64 of 256), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: each branch is decided by the case's hypotheses `hc·`, and the pieces are those that the execution of the body leaves. -/
noncomputable def kernelRun2_A (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x1 .i32) (x1 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_body i arg3 harg3 arg4 harg4 arg5 harg5 arg6 harg6) K } := by
  refine ⟨[], ?_, fun xi2 E K => ?run⟩
  case run =>
    simp only [cc2__gather_body_eq_skeleton]; unfold cc2__gather_body_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

/-- Case A stores nothing into output 2 (the window is idle at its points and not written back there):
    no pieces — a placeholder (junk read back) that nothing consults, since at these points the window is neither
    written back nor read at the next point. -/
def out2_A_2 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x1 .i32) (x1 : Vec F S512x512 .f32) : Vec F S512x512 .f32 :=
  VO2_2.read (Elt F) (VO2_2.writes (Elt F) VO2_2.junk (kernelRun2_A c i arg3 harg3 arg4 harg4 arg5 harg5 arg6 harg6 hc0 hc1 x0 x1).1)

/-- Case A's pieces for scratch `arg6`, which the kernel carries between points, cover it: 2 pieces of `S512x512` tiling it. -/
theorem scover2_A_0 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x1 .i32) (x1 : Vec F S512x512 .f32) (y : S512x512.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S512x512.size (by sl_kernel_rfl) y

/-- What case A leaves in scratch `arg6`: its pieces read back over junk. -/
def sout2_A_0 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x1 .i32) (x1 : Vec F S512x512 .f32) : Vec F S512x512 .f32 :=
  VS2_0.read (Elt F) (VS2_0.writes (Elt F) VS2_0.junk (kernelRun2_A c i arg3 harg3 arg4 harg4 arg5 harg5 arg6 harg6 hc0 hc1 x0 x1).2.1)

set_option maxHeartbeats 1000000 in
/-- What the body's stores leave in each output's staging memref, as pieces (last first) IN CASE B (`scf.if` 0 not taken, `scf.if` 1 not taken: points 1, 2, … 254: 128 of 256), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: each branch is decided by the case's hypotheses `hc·`, and the pieces are those that the execution of the body leaves. -/
noncomputable def kernelRun2_B (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x1 .i32) (x1 : Vec F S512x512 .f32) (xs0 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__gather_body i arg3 harg3 arg4 harg4 arg5 harg5 arg6 harg6) K } := by
  refine ⟨[], ?_, fun xi2 E K => ?run⟩
  case run =>
    simp only [cc2__gather_body_eq_skeleton]; unfold cc2__gather_body_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

/-- Case B stores nothing into output 2 (the window is idle at its points and not written back there):
    no pieces — a placeholder (junk read back) that nothing consults, since at these points the window is neither
    written back nor read at the next point. -/
def out2_B_2 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x1 .i32) (x1 : Vec F S512x512 .f32) (xs0 : Vec F S512x512 .f32) : Vec F S512x512 .f32 :=
  VO2_2.read (Elt F) (VO2_2.writes (Elt F) VO2_2.junk (kernelRun2_B c i arg3 harg3 arg4 harg4 arg5 harg5 arg6 harg6 hc0 hc1 x0 x1 xs0).1)

/-- Case B's pieces for scratch `arg6`, which the kernel carries between points, cover it: 1 piece of `S512x512` tiling it. -/
theorem scover2_B_0 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x1 .i32) (x1 : Vec F S512x512 .f32) (xs0 : Vec F S512x512 .f32) (y : S512x512.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S512x512.size (by sl_kernel_rfl) y

/-- What case B leaves in scratch `arg6`: its pieces read back over junk. -/
def sout2_B_0 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x1 .i32) (x1 : Vec F S512x512 .f32) (xs0 : Vec F S512x512 .f32) : Vec F S512x512 .f32 :=
  VS2_0.read (Elt F) (VS2_0.writes (Elt F) VS2_0.junk (kernelRun2_B c i arg3 harg3 arg4 harg4 arg5 harg5 arg6 harg6 hc0 hc1 x0 x1 xs0).2.1)

set_option maxHeartbeats 1000000 in
/-- What the body's stores leave in each output's staging memref, as pieces (last first) IN CASE C (`scf.if` 0 not taken, `scf.if` 1 taken: points 3, 7, … 255: 64 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: each branch is decided by the case's hypotheses `hc·`, and the pieces are those that the execution of the body leaves. -/
noncomputable def kernelRun2_C (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x1 .i32) (x1 : Vec F S512x512 .f32) (xs0 : Vec F S512x512 .f32) :
    Σ' (L2 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__gather_body i arg3 harg3 arg4 harg4 arg5 harg5 arg6 harg6) K } := by
  refine ⟨?_, ?_, fun E K => ?run⟩
  case run =>
    simp only [cc2__gather_body_eq_skeleton]; unfold cc2__gather_body_skel
    simp only [k2_part1_eq_skeleton, k2_part2_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- Case C's pieces for output 2 tile its block (1 store of `S512x512`), so they cover it. -/
theorem cover2_C_2 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x1 .i32) (x1 : Vec F S512x512 .f32) (xs0 : Vec F S512x512 .f32) (y : S512x512.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S512x512.size (by sl_kernel_rfl) y

/-- What case C leaves in output 2's staging buffer: its pieces read back over junk. -/
def out2_C_2 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x1 .i32) (x1 : Vec F S512x512 .f32) (xs0 : Vec F S512x512 .f32) : Vec F S512x512 .f32 :=
  VO2_2.read (Elt F) (VO2_2.writes (Elt F) VO2_2.junk (kernelRun2_C c i arg3 harg3 arg4 harg4 arg5 harg5 arg6 harg6 hc0 hc1 x0 x1 xs0).1)

/-- Case C's pieces for scratch `arg6`, which the kernel carries between points, cover it: 1 piece of `S512x512` tiling it. -/
theorem scover2_C_0 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x1 .i32) (x1 : Vec F S512x512 .f32) (xs0 : Vec F S512x512 .f32) (y : S512x512.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S512x512.size (by sl_kernel_rfl) y

/-- What case C leaves in scratch `arg6`: its pieces read back over junk. -/
def sout2_C_0 (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x1 .i32) (x1 : Vec F S512x512 .f32) (xs0 : Vec F S512x512 .f32) : Vec F S512x512 .f32 :=
  VS2_0.read (Elt F) (VS2_0.writes (Elt F) VS2_0.junk (kernelRun2_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case. -/
def outsAt2 (c : Dev nD) : (n : ℕ) → n < cfg2.N → Vec F S512x512 .f32 × Vec F S512x512 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by have hN : n + 1 < 256 := lt_of_lt_of_eq hn (show cfg2.N = 256 from N_2); omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's; afterwards the scoped rest with each carried scratch
    at what the point before left in it (`outsAt2`'s scratch components), the others at anything, and the generator register
    at some state. -/
def Phi2S (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut spec2 c [cc2_scratch0]) ∗ (∃ r, prngReg c r))

theorem Phi2S_zero (c : Dev nD) (n : ℕ) (h : n ≤ cfg2.N) (hz : n = 0) : Phi2S V c n h = Pipeline.ΦA spec2 c := by
  subst hz; rfl

/-- After point `n` (before point `n + 1`): the carried scratch at that point's contents. -/
theorem Phi2S_succ (c : Dev nD) (n : ℕ) (hn : n < cfg2.N) :
    Phi2S V c (n + 1) hn = iprop(iprop(owns (c : Thread nD τ) scM2_0 fullShare ((outsAt2 V c n hn).2) ∗ Pipeline.scopedRestBut spec2 c [cc2_scratch0]) ∗ (∃ r, prngReg c r)) := rfl

/-- Before a point that is not the first: the carried scratch at what the point before left. -/
theorem Phi2S_pos (c : Dev nD) (n : ℕ) (h : n ≤ cfg2.N) (hz : n ≠ 0) :
    Phi2S V c n h = iprop(iprop(owns (c : Thread nD τ) scM2_0 fullShare ((outsAt2 V c (n - 1) (by omega)).2) ∗ Pipeline.scopedRestBut spec2 c [cc2_scratch0]) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`Phi2S`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := Phi2S V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start (the proof data at `t.castSucc`), restated at `t.val`. -/
theorem Phi2S_castSucc (c : Dev nD) (t : Fin cfg2.N) :
    (dat2 V c).Φ t.castSucc = Phi2S V c t.val (Nat.le_of_lt t.isLt) := by
  dsimp only [dat2]; exact Pipeline.Dat.Φ_castSucc (Phi2S V c) t

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks (`before2_W`); the closed forms say which case the point is in, an output the case reads before covering holds what the point before left (`before2_W_κ`); so the
    run applies; the invariant hands the body the carried scratch at what the point before left (`Phi2S_pos`; at anything at the first point, `Phi2S_zero`), the other scratch buffers and the generator register at some state, and takes the carried scratch back at this point's contents (`Phi2S_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2S V c (t.val + 1) t.isLt from rfl, Phi2S_succ]
  have hN : t.val < 256 := lt_of_lt_of_eq t.isLt (show cfg2.N = 256 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      by_cases hz : t.val = 0
      · rw [Phi2S_castSucc V c t, Phi2S_zero V c _ _ hz, PhiA2_eq]
        rw [outsAt2_A V c t h0 h1]
        unfold sout2_A_0; (try dsimp only)
        iintro ⟨⟨⟨HS0, HR1⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_A_0 c _ _ _ _ _ _ _ _ _ _ _ _ _)
            iexact HR1
          iexact Hg
        isplitl [Ho]; · iexact Ho
        isplitl [H0]; · iexact H0
        isplitl [H1]; · iexact H1
        iexists _; iexact H2
      · rw [Phi2S_castSucc V c t, Phi2S_pos V c _ _ hz]
        rw [outsAt2_A V c t h0 h1]
        unfold sout2_A_0; (try dsimp only)
        iintro ⟨⟨⟨HS0, HR1⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_A_0 c _ _ _ _ _ _ _ _ _ _ _ _ _)
            iexact HR1
          iexact Hg
        isplitl [Ho]; · iexact Ho
        isplitl [H0]; · iexact H0
        isplitl [H1]; · iexact H1
        iexists _; iexact H2
  · by_cases h1 : t.val % 4 = 3
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1)], after2_2]
      by_cases hz : t.val = 0
      · exfalso; have hN : t.val < 256 := lt_of_lt_of_eq t.isLt (show cfg2.N = 256 from N_2); omega
      · rw [Phi2S_castSucc V c t, Phi2S_pos V c _ _ hz]
        rw [outsAt2_C V c t h0 h1]
        unfold out2_C_2 sout2_C_0; (try dsimp only)
        iintro ⟨⟨⟨HS0, HR1⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_C_0 c _ _ _ _ _ _ _ _ _ _ _ _ _ _)
            iexact HR1
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      by_cases hz : t.val = 0
      · exfalso; have hN : t.val < 256 := lt_of_lt_of_eq t.isLt (show cfg2.N = 256 from N_2); omega
      · rw [Phi2S_castSucc V c t, Phi2S_pos V c _ _ hz]
        rw [outsAt2_B V c t h0 h1]
        unfold sout2_B_0; (try dsimp only)
        iintro ⟨⟨⟨HS0, HR1⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_B_0 c _ _ _ _ _ _ _ _ _ _ _ _ _ _)
            iexact HR1
          iexact Hg
        isplitl [Ho]; · iexact Ho
        isplitl [H0]; · iexact H0
        isplitl [H1]; · iexact H1
        iexists _; iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = Phi2S V c 0 (Nat.zero_le _) from rfl, Phi2S_zero V c 0 _ rfl]
  try exact Idealize.SL.BI.Entails.refl _

/-- After any point but the first the invariant gives `ΦA` back: the carried scratch's named contents are forgotten. -/
theorem Phi2_out (c : Dev nD) (t : Fin (cfg2.N + 1)) (ht : t.val ≠ 0) : (dat2 V c).Φ t ⊢ Pipeline.ΦA spec2 c := by
  rw [show (dat2 V c).Φ t = Phi2S V c t.val (Nat.le_of_lt_succ t.isLt) from rfl, Phi2S_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi2_out V c _ (by rw [Fin.val_last]; have : cfg2.N = 256 := N_2; omega)

end Cert.KernelIdeal.Run
-- ==== Proof.R3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents when the region is entered. -/
variable (V : (c : Dev nD) → (b : Ref sig .tc) → Buf (Elt F) ((c : Thread nD τ).loc b))

/-! # REGION 3 of @main: custom_call 3, `cc3__norms_body` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := (Scalar.cmpi .ne (Scalar.extui (Scalar.cmpi .eq (BitVec.ofNat 32 (i 0).val) 0#32)) 0#32) = 1#1
/-- It holds at the first point only — by arithmetic of the point. -/
theorem hcond3_0 : ∀ t : Fin cfg3.N, cond3_0 (grid3.coords t) ↔ t.val % 8 = 0 :=
  (fun t => by
    have ht : t.val < 8 := Nat.lt_of_lt_of_eq t.isLt N_3
    have e0 : (grid3.coords t 0).val = t.val / 1 % 8 := Pipeline.Grid.coords_val t 0 (by decide) rfl
    simp only [cond3_0, e0]
    word_cmp
   : ∀ t : Fin grid3.N, cond3_0 (grid3.coords t) ↔ t.val % 8 = 0)

/-- The condition of the body's `scf.if` 1 (`k3_h2`), from the grid coordinates (the skeleton's scalar
    chain substituted). -/
abbrev cond3_1 (i : grid3.Coords) : Prop := (Scalar.cmpi .ne (Scalar.extui (Scalar.cmpi .eq (BitVec.ofNat 32 (i 0).val) 7#32)) 0#32) = 1#1
/-- It holds at the last point only — by arithmetic of the point. -/
theorem hcond3_1 : ∀ t : Fin cfg3.N, cond3_1 (grid3.coords t) ↔ t.val % 8 = 7 :=
  (fun t => by
    have ht : t.val < 8 := Nat.lt_of_lt_of_eq t.isLt N_3
    have e0 : (grid3.coords t 0).val = t.val / 1 % 8 := Pipeline.Grid.coords_val t 0 (by decide) rfl
    simp only [cond3_1, e0]
    word_cmp
   : ∀ t : Fin grid3.N, cond3_1 (grid3.coords t) ↔ t.val % 8 = 7)

/-! ## The kernel body on any staging memrefs -/

/-- One staging buffer of output window 2, through which its contents are stated (`View.read_writes_of_cover`: the
    choice does not matter). -/
abbrev VO3_2 : View sig .tc .vmem S8x8192 .f32 := (Memref.whole cc3_stg2_0 : Memref sig .tc .vmem S8x8192 .f32).view
/-- Each window's current staging memref at point `t`, spelled as the pipeline passes it (`bodyAt3`), and its wholeness. -/
abbrev ms3_0 (t : Fin cfg3.N) : Memref sig .tc .vmem S256x8192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x8192 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x8192 .f32 := win3_2.stage (cfg3.slots t 2)
abbrev hs3_2 (t : Fin cfg3.N) : (ms3_2 t).IsWhole := hstage3_2 ((cfg3.slots t 2).cast nbuf3_2)

set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: each branch is decided by the case's hypotheses `hc·`, and the pieces are those that the execution of the body leaves. -/
noncomputable def kernelRun3_A (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : cond3_0 i) (hc1 : ¬cond3_1 i)
    (x0 : Vec F S256x8192 .f32) (x1 : Vec F S256x8192 .f32) :
    { L2 : List (View.Piece (Elt F) S8x8192 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc3__norms_body i arg1 harg1 arg2 harg2 arg3 harg3) K } := by
  refine ⟨?_, fun E K => ?run⟩
  case run =>
    simp only [cc3__norms_body_eq_skeleton]; unfold cc3__norms_body_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case A's pieces for output 2 tile its block (33 stores of `S8x8192`), so they cover it. -/
theorem cover3_A_2 (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : cond3_0 i) (hc1 : ¬cond3_1 i)
    (x0 : Vec F S256x8192 .f32) (x1 : Vec F S256x8192 .f32) (y : S8x8192.Idx) :
    ∃ pc ∈ (kernelRun3_A c i arg1 harg1 arg2 harg2 arg3 harg3 hc0 hc1 x0 x1).1, y ∈ pc.1.set :=
  View.cover_of_tiledL (kernelRun3_A c i arg1 harg1 arg2 harg2 arg3 harg3 hc0 hc1 x0 x1).1 S8x8192.size (by sl_kernel_rfl) y

/-- What case A leaves in output 2's staging buffer: its pieces read back over junk. -/
def out3_A_2 (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : cond3_0 i) (hc1 : ¬cond3_1 i)
    (x0 : Vec F S256x8192 .f32) (x1 : Vec F S256x8192 .f32) : Vec F S8x8192 .f32 :=
  VO3_2.read (Elt F) (VO3_2.writes (Elt F) VO3_2.junk (kernelRun3_A c i arg1 harg1 arg2 harg2 arg3 harg3 hc0 hc1 x0 x1).1)

set_option maxHeartbeats 1000000 in
/-- What the body's stores leave in each output's staging memref, as pieces (last first) IN CASE B (`scf.if` 0 not taken, `scf.if` 1 not taken: points 1, 2, 3, 4, 5, 6), WITH the
    proof that on whole staging memrefs — the inputs' at their contents, the outputs it reads before covering (2) at their running contents `xo·`, the other outputs' at
    anything, the body runs to the continuation holding the inputs' as they were,
    each output's buffer with its pieces written: each branch is decided by the case's hypotheses `hc·`, and the pieces are those that the execution of the body leaves. -/
noncomputable def kernelRun3_B (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : ¬cond3_0 i) (hc1 : ¬cond3_1 i)
    (x0 : Vec F S256x8192 .f32) (x1 : Vec F S256x8192 .f32) (xo2 : Vec F S8x8192 .f32) :
    { L2 : List (View.Piece (Elt F) S8x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc3__norms_body i arg1 harg1 arg2 harg2 arg3 harg3) K } := by
  refine ⟨?_, fun E K => ?run⟩
  case run =>
    simp only [cc3__norms_body_eq_skeleton]; unfold cc3__norms_body_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case B's pieces for output 2 tile its block (32 stores of `S8x8192`), so they cover it. -/
theorem cover3_B_2 (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : ¬cond3_0 i) (hc1 : ¬cond3_1 i)
    (x0 : Vec F S256x8192 .f32) (x1 : Vec F S256x8192 .f32) (xo2 : Vec F S8x8192 .f32) (y : S8x8192.Idx) :
    ∃ pc ∈ (kernelRun3_B c i arg1 harg1 arg2 harg2 arg3 harg3 hc0 hc1 x0 x1 xo2).1, y ∈ pc.1.set :=
  View.cover_of_tiledL (kernelRun3_B c i arg1 harg1 arg2 harg2 arg3 harg3 hc0 hc1 x0 x1 xo2).1 S8x8192.size (by sl_kernel_rfl) y

/-- What case B leaves in output 2's staging buffer: its pieces read back over junk. -/
def out3_B_2 (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : ¬cond3_0 i) (hc1 : ¬cond3_1 i)
    (x0 : Vec F S256x8192 .f32) (x1 : Vec F S256x8192 .f32) (xo2 : Vec F S8x8192 .f32) : Vec F S8x8192 .f32 :=
  VO3_2.read (Elt F) (VO3_2.writes (Elt F) VO3_2.junk (kernelRun3_B c i arg1 harg1 arg2 harg2 arg3 harg3 hc0 hc1 x0 x1 xo2).1)

set_option maxHeartbeats 1000000 in
/-- What the body's stores leave in each output's staging memref, as pieces (last first) IN CASE C (`scf.if` 0 not taken, `scf.if` 1 taken: points 7), WITH the
    proof that on whole staging memrefs — the inputs' at their contents, the outputs it reads before covering (2) at their running contents `xo·`, the other outputs' at
    anything, the body runs to the continuation holding the inputs' as they were,
    each output's buffer with its pieces written: each branch is decided by the case's hypotheses `hc·`, and the pieces are those that the execution of the body leaves. -/
noncomputable def kernelRun3_C (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : ¬cond3_0 i) (hc1 : cond3_1 i)
    (x0 : Vec F S256x8192 .f32) (x1 : Vec F S256x8192 .f32) (xo2 : Vec F S8x8192 .f32) :
    { L2 : List (View.Piece (Elt F) S8x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc3__norms_body i arg1 harg1 arg2 harg2 arg3 harg3) K } := by
  refine ⟨?_, fun E K => ?run⟩
  case run =>
    simp only [cc3__norms_body_eq_skeleton]; unfold cc3__norms_body_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- Case C's pieces for output 2 are of SEVERAL sizes (33 stores of `S1x8192`, `S8x8192`): cut into blocks of `![1, 8192]` they tile its block, so they cover it. -/
theorem cover3_C_2 (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : ¬cond3_0 i) (hc1 : cond3_1 i)
    (x0 : Vec F S256x8192 .f32) (x1 : Vec F S256x8192 .f32) (xo2 : Vec F S8x8192 .f32) (y : S8x8192.Idx) :
    ∃ pc ∈ (kernelRun3_C c i arg1 harg1 arg2 harg2 arg3 harg3 hc0 hc1 x0 x1 xo2).1, y ∈ pc.1.set :=
  View.cover_of_tiledBy (kernelRun3_C c i arg1 harg1 arg2 harg2 arg3 harg3 hc0 hc1 x0 x1 xo2).1 ![1, 8192] (by sl_kernel_rfl) y

/-- What case C leaves in output 2's staging buffer: its pieces read back over junk. -/
def out3_C_2 (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole) (hc0 : ¬cond3_0 i) (hc1 : cond3_1 i)
    (x0 : Vec F S256x8192 .f32) (x1 : Vec F S256x8192 .f32) (xo2 : Vec F S8x8192 .f32) : Vec F S8x8192 .f32 :=
  VO3_2.read (Elt F) (VO3_2.writes (Elt F) VO3_2.junk (kernelRun3_C c i arg1 harg1 arg2 harg2 arg3 harg3 hc0 hc1 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before3_W_κ`). An assignment of the conditions no point meets is no case. -/
def outsAt3 (c : Dev nD) : (n : ℕ) → n < cfg3.N → Vec F S8x8192 .f32
  | 0, hn => out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩)
  | n + 1, hn =>
    if h0 : (n + 1) % 8 = 0 then
      if h1 : (n + 1) % 8 = 7 then
        False.elim (by have hN : n + 1 < 8 := lt_of_lt_of_eq hn (show cfg3.N = 8 from N_3); omega)
      else
        out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩)
    else
      if h1 : (n + 1) % 8 = 7 then
        out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn))
      else
        out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn))

/-- `outsAt3` at a point of case A: that case's contents. -/
theorem outsAt3_A (c : Dev nD) (t : Fin cfg3.N) (h0 : t.val % 8 = 0) (h1 : ¬t.val % 8 = 7) :
    outsAt3 V c t.val t.isLt = out3_A_2 c (grid3.coords t) (ms3_0 t) (hs3_0 t) (ms3_1 t) (hs3_1 t) (ms3_2 t) (hs3_2 t) ((hcond3_0 t).mpr h0) (fun h => h1 ((hcond3_1 t).mp h)) (iblk3 V c 0 t) (iblk3 V c 1 t) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : ¬t.val % 8 = 7) :
    outsAt3 V c t.val t.isLt = out3_B_2 c (grid3.coords t) (ms3_0 t) (hs3_0 t) (ms3_1 t) (hs3_1 t) (ms3_2 t) (hs3_2 t) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 8 = 0) (h1 : t.val % 8 = 7) :
    outsAt3 V c t.val t.isLt = out3_C_2 c (grid3.coords t) (ms3_0 t) (hs3_0 t) (ms3_1 t) (hs3_1 t) (ms3_2 t) (hs3_2 t) (fun h => h0 ((hcond3_0 t).mp h)) ((hcond3_1 t).mpr h1) (iblk3 V c 0 t) (iblk3 V c 1 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 3 on core `c`: the arrays as the region finds them (`V`); after the body at
    point `t` each input's buffer at its block and the outputs' at `outsAt3`; the invariant the class's; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
/-- At a point of case B output 2's current staging buffer holds what the body left at the point before: the point is
    not the first, the buffer was not written back between (`flush3_2`), the window is live and uncut. -/
theorem before3_2_B (c : Dev nD) (t : Fin cfg3.N) (h0 : ¬t.val % 8 = 0) (h1 : ¬t.val % 8 = 7) (d) :
    (dat3 V c).before 2 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 2 rfl t (by omega) (Bool.eq_false_iff.mpr fun h => by have := (flush3_2 _).mp h; dsimp only at this; omega)
    (fun _ => rfl) (fun _ _ => rfl)]
  dsimp only [dat3]
/-- At a point of case C output 2's current staging buffer holds what the body left at the point before: the point is
    not the first, the buffer was not written back between (`flush3_2`), the window is live and uncut. -/
theorem before3_2_C (c : Dev nD) (t : Fin cfg3.N) (h0 : ¬t.val % 8 = 0) (h1 : t.val % 8 = 7) (d) :
    (dat3 V c).before 2 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 2 rfl t (by omega) (Bool.eq_false_iff.mpr fun h => by have := (flush3_2 _).mp h; dsimp only at this; omega)
    (fun _ => rfl) (fun _ _ => rfl)]
  dsimp only [dat3]

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 1200000 in
/-- The body at any point: the inputs' memrefs hold their blocks (`before3_W`); the closed forms say which case the point is in, an output the case reads before covering holds what the point before left (`before3_W_κ`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  have hN : t.val < 8 := lt_of_lt_of_eq t.isLt (show cfg3.N = 8 from N_3)
  by_cases h0 : t.val % 8 = 0
  · by_cases h1 : t.val % 8 = 7
    · exfalso; omega
    · rw [outsAt3_A V c t h0 h1]
      unfold out3_A_2
      iintro ⟨HΦ, Ho, ⟨%d0, H0⟩, ⟨%d1, H1⟩, ⟨%d2, H2⟩⟩
      iapply ((kernelRun3_A c (grid3.coords t) _ _ _ _ _ _ ((hcond3_0 t).mpr h0) (fun h => h1 ((hcond3_1 t).mp h)) (iblk3 V c 0 t) (iblk3 V c 1 t)).2 Set.univ _)
      isplitl [H0]; · iexact H0
      isplitl [H1]; · iexact H1
      isplitl [H2]; · iexists _; iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover3_A_2 c _ _ _ _ _ _ _ _ _ _ _)
  · by_cases h1 : t.val % 8 = 7
    · rw [outsAt3_C V c t h0 h1]
      simp only [before3_2_C V c t h0 h1]
      unfold out3_C_2
      iintro ⟨HΦ, Ho, ⟨%d0, H0⟩, ⟨%d1, H1⟩, ⟨%d2, H2⟩⟩
      iapply ((kernelRun3_C c (grid3.coords t) _ _ _ _ _ _ (fun h => h0 ((hcond3_0 t).mp h)) ((hcond3_1 t).mpr h1) (iblk3 V c 0 t) (iblk3 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _)
    · rw [outsAt3_B V c t h0 h1]
      simp only [before3_2_B V c t h0 h1]
      unfold out3_B_2
      iintro ⟨HΦ, Ho, ⟨%d0, H0⟩, ⟨%d1, H1⟩, ⟨%d2, H2⟩⟩
      iapply ((kernelRun3_B c (grid3.coords t) _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]; · iexact H0
      isplitl [H1]; · iexact H1
      unfold owns; iexists _; isplitr
      swap; · iexact H2
      ipureintro; exact View.read_writes_of_cover _ _ _ _ _ (cover3_B_2 c _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Run
-- ==== Proof.R4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents when the region is entered. -/
variable (V : (c : Dev nD) → (b : Ref sig .tc) → Buf (Elt F) ((c : Thread nD τ).loc b))

/-! # REGION 4 of @main: custom_call 4, `cc4__rank_body` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates (the skeleton's scalar
    chain substituted). -/
abbrev cond4_0 (i : grid4.Coords) : Prop := (Scalar.cmpi .ne (Scalar.extui (Scalar.cmpi .eq (BitVec.ofNat 32 (i 0).val) 0#32)) 0#32) = 1#1
/-- It holds at the first point only — by arithmetic of the point. -/
theorem hcond4_0 : ∀ t : Fin cfg4.N, cond4_0 (grid4.coords t) ↔ t.val % 16 = 0 :=
  (fun t => by
    have ht : t.val < 16 := Nat.lt_of_lt_of_eq t.isLt N_4
    have e0 : (grid4.coords t 0).val = t.val / 1 % 16 := Pipeline.Grid.coords_val t 0 (by decide) rfl
    simp only [cond4_0, e0]
    word_cmp
   : ∀ t : Fin grid4.N, cond4_0 (grid4.coords t) ↔ t.val % 16 = 0)

/-! ## The kernel body on any staging memrefs -/

/-- One staging buffer of output window 2, through which its contents are stated (`View.read_writes_of_cover`: the
    choice does not matter). -/
abbrev VO4_2 : View sig .tc .vmem S1x8192 .i32 := (Memref.whole cc4_stg2_0 : Memref sig .tc .vmem S1x8192 .i32).view
/-- One staging buffer of output window 3, through which its contents are stated (`View.read_writes_of_cover`: the
    choice does not matter). -/
abbrev VO4_3 : View sig .tc .vmem S512x1 .i32 := (Memref.whole cc4_stg3_0 : Memref sig .tc .vmem S512x1 .i32).view
/-- Each window's current staging memref at point `t`, spelled as the pipeline passes it (`bodyAt4`), and its wholeness. -/
abbrev ms4_0 (t : Fin cfg4.N) : Memref sig .tc .vmem S512x1 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x8192 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x8192 .i32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x1 .i32 := win4_3.stage (cfg4.slots t 3)
abbrev hs4_3 (t : Fin cfg4.N) : (ms4_3 t).IsWhole := hstage4_3 ((cfg4.slots t 3).cast nbuf4_3)

set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: each branch is decided by the case's hypotheses `hc·`, and the pieces are those that the execution of the body leaves. -/
noncomputable def kernelRun4_A (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : cond4_0 i)
    (x0 : Vec F S512x1 .f32) (x1 : Vec F S1x8192 .f32) :
    Σ' (L2 : List (View.Piece (Elt F) S1x8192 .i32)), { L3 : List (View.Piece (Elt F) S512x1 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc4__rank_body i arg1 harg1 arg2 harg2 arg3 harg3 arg4 harg4) K } := by
  refine ⟨?_, ?_, fun E K => ?run⟩
  case run =>
    simp only [cc4__rank_body_eq_skeleton]; unfold cc4__rank_body_skel
    simp only [k4_part1_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block (2 stores of `S1x8192`), so they cover it. -/
theorem cover4_A_2 (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : cond4_0 i)
    (x0 : Vec F S512x1 .f32) (x1 : Vec F S1x8192 .f32) (y : S1x8192.Idx) :
    ∃ pc ∈ (kernelRun4_A c i arg1 harg1 arg2 harg2 arg3 harg3 arg4 harg4 hc0 x0 x1).1, y ∈ pc.1.set :=
  View.cover_of_tiledL (kernelRun4_A c i arg1 harg1 arg2 harg2 arg3 harg3 arg4 harg4 hc0 x0 x1).1 S1x8192.size (by sl_kernel_rfl) y

/-- What case A leaves in output 2's staging buffer: its pieces read back over junk. -/
def out4_A_2 (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : cond4_0 i)
    (x0 : Vec F S512x1 .f32) (x1 : Vec F S1x8192 .f32) : Vec F S1x8192 .i32 :=
  VO4_2.read (Elt F) (VO4_2.writes (Elt F) VO4_2.junk (kernelRun4_A c i arg1 harg1 arg2 harg2 arg3 harg3 arg4 harg4 hc0 x0 x1).1)

/-- Case A's pieces for output 3 tile its block (1 store of `S512x1`), so they cover it. -/
theorem cover4_A_3 (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : cond4_0 i)
    (x0 : Vec F S512x1 .f32) (x1 : Vec F S1x8192 .f32) (y : S512x1.Idx) :
    ∃ pc ∈ (kernelRun4_A c i arg1 harg1 arg2 harg2 arg3 harg3 arg4 harg4 hc0 x0 x1).2.1, y ∈ pc.1.set :=
  View.cover_of_tiledL (kernelRun4_A c i arg1 harg1 arg2 harg2 arg3 harg3 arg4 harg4 hc0 x0 x1).2.1 S512x1.size (by sl_kernel_rfl) y

/-- What case A leaves in output 3's staging buffer: its pieces read back over junk. -/
def out4_A_3 (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : cond4_0 i)
    (x0 : Vec F S512x1 .f32) (x1 : Vec F S1x8192 .f32) : Vec F S512x1 .i32 :=
  VO4_3.read (Elt F) (VO4_3.writes (Elt F) VO4_3.junk (kernelRun4_A c i arg1 harg1 arg2 harg2 arg3 harg3 arg4 harg4 hc0 x0 x1).2.1)

set_option maxHeartbeats 1000000 in
/-- What the body's stores leave in each output's staging memref, as pieces (last first) IN CASE B (`scf.if` 0 not taken: points 1, 2, … 15: 15 of 16), WITH the
    proof that on whole staging memrefs — the inputs' at their contents, the outputs it reads before covering (2) at their running contents `xo·`, the other outputs' at
    anything, the body runs to the continuation holding the inputs' as they were,
    each output's buffer with its pieces written: each branch is decided by the case's hypotheses `hc·`, and the pieces are those that the execution of the body leaves. -/
noncomputable def kernelRun4_B (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : ¬cond4_0 i)
    (x0 : Vec F S512x1 .f32) (x1 : Vec F S1x8192 .f32) (xo2 : Vec F S1x8192 .i32) :
    Σ' (L2 : List (View.Piece (Elt F) S1x8192 .i32)), { L3 : List (View.Piece (Elt F) S512x1 .i32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc4__rank_body i arg1 harg1 arg2 harg2 arg3 harg3 arg4 harg4) K } := by
  refine ⟨?_, ?_, fun E K => ?run⟩
  case run =>
    simp only [cc4__rank_body_eq_skeleton]; unfold cc4__rank_body_skel
    simp only [k4_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block (1 store of `S1x8192`), so they cover it. -/
theorem cover4_B_2 (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : ¬cond4_0 i)
    (x0 : Vec F S512x1 .f32) (x1 : Vec F S1x8192 .f32) (xo2 : Vec F S1x8192 .i32) (y : S1x8192.Idx) :
    ∃ pc ∈ (kernelRun4_B c i arg1 harg1 arg2 harg2 arg3 harg3 arg4 harg4 hc0 x0 x1 xo2).1, y ∈ pc.1.set :=
  View.cover_of_tiledL (kernelRun4_B c i arg1 harg1 arg2 harg2 arg3 harg3 arg4 harg4 hc0 x0 x1 xo2).1 S1x8192.size (by sl_kernel_rfl) y

/-- What case B leaves in output 2's staging buffer: its pieces read back over junk. -/
def out4_B_2 (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : ¬cond4_0 i)
    (x0 : Vec F S512x1 .f32) (x1 : Vec F S1x8192 .f32) (xo2 : Vec F S1x8192 .i32) : Vec F S1x8192 .i32 :=
  VO4_2.read (Elt F) (VO4_2.writes (Elt F) VO4_2.junk (kernelRun4_B c i arg1 harg1 arg2 harg2 arg3 harg3 arg4 harg4 hc0 x0 x1 xo2).1)

/-- Case B's pieces for output 3 tile its block (1 store of `S512x1`), so they cover it. -/
theorem cover4_B_3 (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : ¬cond4_0 i)
    (x0 : Vec F S512x1 .f32) (x1 : Vec F S1x8192 .f32) (xo2 : Vec F S1x8192 .i32) (y : S512x1.Idx) :
    ∃ pc ∈ (kernelRun4_B c i arg1 harg1 arg2 harg2 arg3 harg3 arg4 harg4 hc0 x0 x1 xo2).2.1, y ∈ pc.1.set :=
  View.cover_of_tiledL (kernelRun4_B c i arg1 harg1 arg2 harg2 arg3 harg3 arg4 harg4 hc0 x0 x1 xo2).2.1 S512x1.size (by sl_kernel_rfl) y

/-- What case B leaves in output 3's staging buffer: its pieces read back over junk. -/
def out4_B_3 (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole) (hc0 : ¬cond4_0 i)
    (x0 : Vec F S512x1 .f32) (x1 : Vec F S1x8192 .f32) (xo2 : Vec F S1x8192 .i32) : Vec F S512x1 .i32 :=
  VO4_3.read (Elt F) (VO4_3.writes (Elt F) VO4_3.junk (kernelRun4_B c i arg1 harg1 arg2 harg2 arg3 harg3 arg4 harg4 hc0 x0 x1 xo2).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before4_W_κ`). An assignment of the conditions no point meets is no case. -/
def outsAt4 (c : Dev nD) : (n : ℕ) → n < cfg4.N → Vec F S1x8192 .i32 × Vec F S512x1 .i32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) ((hcond4_0 ⟨0, hn⟩).mpr (Nat.zero_mod _)) (iblk4 V c 0 ⟨0, hn⟩) (iblk4 V c 1 ⟨0, hn⟩), out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) ((hcond4_0 ⟨0, hn⟩).mpr (Nat.zero_mod _)) (iblk4 V c 0 ⟨0, hn⟩) (iblk4 V c 1 ⟨0, hn⟩))
  | n + 1, hn =>
    if h0 : (n + 1) % 16 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) ((hcond4_0 ⟨n + 1, hn⟩).mpr h0) (iblk4 V c 0 ⟨n + 1, hn⟩) (iblk4 V c 1 ⟨n + 1, hn⟩), out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) ((hcond4_0 ⟨n + 1, hn⟩).mpr h0) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).1, out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).1)

/-- `outsAt4` at a point of case A: that case's contents. -/
theorem outsAt4_A (c : Dev nD) (t : Fin cfg4.N) (h0 : t.val % 16 = 0) :
    outsAt4 V c t.val t.isLt = (out4_A_2 c (grid4.coords t) (ms4_0 t) (hs4_0 t) (ms4_1 t) (hs4_1 t) (ms4_2 t) (hs4_2 t) (ms4_3 t) (hs4_3 t) ((hcond4_0 t).mpr h0) (iblk4 V c 0 t) (iblk4 V c 1 t), out4_A_3 c (grid4.coords t) (ms4_0 t) (hs4_0 t) (ms4_1 t) (hs4_1 t) (ms4_2 t) (hs4_2 t) (ms4_3 t) (hs4_3 t) ((hcond4_0 t).mpr h0) (iblk4 V c 0 t) (iblk4 V c 1 t)) := by
  obtain ⟨n, hn⟩ := t
  cases n with
  | zero => exact rfl
  | succ n => exact (dif_pos h0).trans rfl

/-- `outsAt4` at a point of case B: that case's contents, over what the point before left. -/
theorem outsAt4_B (c : Dev nD) (t : Fin cfg4.N) (h0 : ¬t.val % 16 = 0) :
    outsAt4 V c t.val t.isLt = (out4_B_2 c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (outsAt4 V c (t.val - 1) (Nat.lt_of_le_of_lt (Nat.sub_le _ _) t.isLt)).1, out4_B_3 c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (outsAt4 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 4 on core `c`: the arrays as the region finds them (`V`); after the body at
    point `t` each input's buffer at its block and the outputs' at `outsAt4`; the invariant the class's; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
/-- At a point of case B output 2's current staging buffer holds what the body left at the point before: the point is
    not the first, the buffer was not written back between (`flush4_2`), the window is live and uncut. -/
theorem before4_2_B (c : Dev nD) (t : Fin cfg4.N) (h0 : ¬t.val % 16 = 0) (d) :
    (dat4 V c).before 2 t d = (outsAt4 V c (t.val - 1) (Nat.lt_of_le_of_lt (Nat.sub_le _ _) t.isLt)).1 := by
  have hN : t.val < 16 := lt_of_lt_of_eq t.isLt (show cfg4.N = 16 from N_4)
  rw [Dat.before_out_kept _ 2 rfl t (by omega) (Bool.eq_false_iff.mpr fun h => by have := (flush4_2 _).mp h; dsimp only at this; omega)
    (fun _ => rfl) (fun _ _ => rfl)]
  dsimp only [dat4]

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t))

set_option maxHeartbeats 800000 in
/-- The body at any point: the inputs' memrefs hold their blocks (`before4_W`); the closed forms say which case the point is in, an output the case reads before covering holds what the point before left (`before4_W_κ`); so the
    run applies; the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  have hN : t.val < 16 := lt_of_lt_of_eq t.isLt (show cfg4.N = 16 from N_4)
  by_cases h0 : t.val % 16 = 0
  · rw [outsAt4_A V c t h0]
    unfold out4_A_2 out4_A_3; (try dsimp only)
    iintro ⟨HΦ, Ho, ⟨%d0, H0⟩, ⟨%d1, H1⟩, ⟨%d2, H2⟩, ⟨%d3, H3⟩⟩
    iapply ((kernelRun4_A c (grid4.coords t) _ _ _ _ _ _ _ _ ((hcond4_0 t).mpr h0) (iblk4 V c 0 t) (iblk4 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_A_2 c _ _ _ _ _ _ _ _ _ _ _ _)
    unfold owns; iexists _; isplitr
    swap; · iexact H3
    ipureintro; exact View.read_writes_of_cover _ _ _ _ _ (cover4_A_3 c _ _ _ _ _ _ _ _ _ _ _ _)
  · rw [outsAt4_B V c t h0]
    simp only [before4_2_B V c t h0]
    unfold out4_B_2 out4_B_3; (try dsimp only)
    iintro ⟨HΦ, Ho, ⟨%d0, H0⟩, ⟨%d1, H1⟩, ⟨%d2, H2⟩, ⟨%d3, H3⟩⟩
    iapply ((kernelRun4_B c (grid4.coords t) _ _ _ _ _ _ _ _ (fun h => h0 ((hcond4_0 t).mp h)) (iblk4 V c 0 t) (iblk4 V c 1 t) _).2.2 Set.univ _)
    isplitl [H0]; · iexact H0
    isplitl [H1]; · iexact H1
    isplitl [H2]; · iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_B_2 c _ _ _ _ _ _ _ _ _ _ _ _ _)
    unfold owns; iexists _; isplitr
    swap; · iexact H3
    ipureintro; exact View.read_writes_of_cover _ _ _ _ _ (cover4_B_3 c _ _ _ _ _ _ _ _ _ _ _ _ _)

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Run
-- ==== Proof.R5.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents when the region is entered. -/
variable (V : (c : Dev nD) → (b : Ref sig .tc) → Buf (Elt F) ((c : Thread nD τ).loc b))

/-! # REGION 5 of @main: custom_call 5, `cc5__gather_body` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates (the skeleton's scalar
    chain substituted). -/
abbrev cond5_0 (i : grid5.Coords) : Prop := (Scalar.cmpi .ne (Scalar.extui (Scalar.cmpi .eq (BitVec.ofNat 32 (i 2).val) 0#32)) 0#32) = 1#1
/-- It holds at the points ≡ 0 (mod 16) — by arithmetic of the point. -/
theorem hcond5_0 : ∀ t : Fin cfg5.N, cond5_0 (grid5.coords t) ↔ t.val % 16 = 0 :=
  (fun t => by
    have ht : t.val < 1024 := Nat.lt_of_lt_of_eq t.isLt N_5
    have e0 : (grid5.coords t 0).val = t.val / 256 % 4 := Pipeline.Grid.coords_val t 0 (by decide) rfl
    have e1 : (grid5.coords t 1).val = t.val / 16 % 16 := Pipeline.Grid.coords_val t 1 (by decide) rfl
    have e2 : (grid5.coords t 2).val = t.val / 1 % 16 := Pipeline.Grid.coords_val t 2 (by decide) rfl
    simp only [cond5_0, e0, e1, e2]
    word_cmp
   : ∀ t : Fin grid5.N, cond5_0 (grid5.coords t) ↔ t.val % 16 = 0)

/-- The condition of the body's `scf.if` 1 (`k5_h2`), from the grid coordinates (the skeleton's scalar
    chain substituted). -/
abbrev cond5_1 (i : grid5.Coords) : Prop := k5_cond2 i = 1#1
/-- It holds at the points ≡ 15 (mod 16) — by arithmetic of the point. -/
theorem hcond5_1 : ∀ t : Fin cfg5.N, cond5_1 (grid5.coords t) ↔ t.val % 16 = 15 :=
  (fun t => by
    have ht : t.val < 1024 := Nat.lt_of_lt_of_eq t.isLt N_5
    have e0 : (grid5.coords t 0).val = t.val / 256 % 4 := Pipeline.Grid.coords_val t 0 (by decide) rfl
    have e1 : (grid5.coords t 1).val = t.val / 16 % 16 := Pipeline.Grid.coords_val t 1 (by decide) rfl
    have e2 : (grid5.coords t 2).val = t.val / 1 % 16 := Pipeline.Grid.coords_val t 2 (by decide) rfl
    simp only [cond5_1, k5_cond2, e0, e1, e2]
    word_cmp
   : ∀ t : Fin grid5.N, cond5_1 (grid5.coords t) ↔ t.val % 16 = 15)

/-! ## Where the windows are idle (the printed configuration's table `Cfg.idle`) -/

/-- Window 0 is never idle (an input). -/
theorem liveAt5_0 : ∀ t : Fin cfg5.N, cfg5.idle 0 (grid5.coords t) = false := fun _ => rfl
/-- Window 1 is never idle (an input). -/
theorem liveAt5_1 : ∀ t : Fin cfg5.N, cfg5.idle 1 (grid5.coords t) = false := fun _ => rfl
/-- At the points of case A the printed configuration (`Cfg.idle`) calls output 2 idle: the case stores nothing into it. -/
theorem idleAt5_2_A : ∀ t : Fin cfg5.N, cond5_0 (grid5.coords t) → ¬cond5_1 (grid5.coords t) → cfg5.idle 2 (grid5.coords t) = true := by decide +kernel
/-- At the points of case A the pipeline does not write output 2's block back. -/
theorem noFlush5_2_A : ∀ t : Fin cfg5.N, cond5_0 (grid5.coords t) → ¬cond5_1 (grid5.coords t) → (cfg5.win 2).flush t = false := by decide +kernel
/-- At the points of case B the printed configuration (`Cfg.idle`) calls output 2 idle: the case stores nothing into it. -/
theorem idleAt5_2_B : ∀ t : Fin cfg5.N, ¬cond5_0 (grid5.coords t) → ¬cond5_1 (grid5.coords t) → cfg5.idle 2 (grid5.coords t) = true := by decide +kernel
/-- At the points of case B the pipeline does not write output 2's block back. -/
theorem noFlush5_2_B : ∀ t : Fin cfg5.N, ¬cond5_0 (grid5.coords t) → ¬cond5_1 (grid5.coords t) → (cfg5.win 2).flush t = false := by decide +kernel
/-- At the points of case C the printed configuration (`Cfg.idle`) calls output 2 live: the case stores into it. -/
theorem liveAt5_2_C : ∀ t : Fin cfg5.N, ¬cond5_0 (grid5.coords t) → cond5_1 (grid5.coords t) → cfg5.idle 2 (grid5.coords t) = false := by decide +kernel

/-! ## The kernel body on any staging memrefs -/

/-- One staging buffer of output window 2, through which its contents are stated (`View.read_writes_of_cover`: the
    choice does not matter). -/
abbrev VO5_2 : View sig .tc .vmem S512x512 .f32 := (Memref.whole cc5_stg2_0 : Memref sig .tc .vmem S512x512 .f32).view
/-- Each window's current staging memref at point `t`, spelled as the pipeline passes it (`bodyAt5`), and its wholeness. -/
abbrev ms5_0 (t : Fin cfg5.N) : Memref sig .tc .vmem S512x1 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x512 .f32 := win5_2.stage (cfg5.slots t 2)
abbrev hs5_2 (t : Fin cfg5.N) : (ms5_2 t).IsWhole := hstage5_2 ((cfg5.slots t 2).cast nbuf5_2)
/-- The scratch operands: whole scoped buffers of the kernel's own, passed beside the windows. -/
abbrev scM5_0 : Memref sig .tc .vmem S512x512 .f32 := Memref.whole cc5_scratch0
/-- The scratch `arg6` the kernel carries between points, as a view: what it holds is stated through it. -/
abbrev VS5_0 : View sig .tc .vmem S512x512 .f32 := scM5_0.view

/-- `Gen.scopedRest5_split` as ONE chain: the kernel's own scratch buffers, each whole at some contents, then every
    other scoped buffer, unopened (`Pipeline.scopedRestBut`). -/
theorem scopedRest5_flat (c : Dev nD) :
    (Pipeline.scopedRest spec5 c : sProp 𝕄)
      = iprop((∃ f : Buf (Elt F) ((c : Thread nD τ).loc cc5_scratch0), ((c : Thread nD τ).loc cc5_scratch0) ↦{fullShare} f) ∗ Pipeline.scopedRestBut spec5 c [cc5_scratch0]) := by
  rw [scopedRest5_split]

/-- The frame kit's invariant with the scratch operands as memrefs owned at some contents: what the body obligation hands the run and takes back. -/
theorem PhiA5_eq (c : Dev nD) :
    (Pipeline.ΦA spec5 c : sProp 𝕄)
      = iprop(iprop((∃ d, owns (c : Thread nD τ) scM5_0 fullShare d) ∗ Pipeline.scopedRestBut spec5 c [cc5_scratch0]) ∗ (∃ r, prngReg c r)) := by
  unfold Pipeline.ΦA; rw [scopedRest5_flat]; simp only [scM5_0, owns_whole]; try rfl

set_option maxHeartbeats 1000000 in
/-- What the body's stores leave in each output's staging memref, as pieces (last first) IN CASE A (`scf.if` 0 taken, `scf.if` 1 not taken: points 0, 16, … 1008: 64 of 1024), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: each branch is decided by the case's hypotheses `hc·`, and the pieces are those that the execution of the body leaves. -/
noncomputable def kernelRun5_A (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i)
    (x0 : Vec F S512x1 .i32) (x1 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc5__gather_body i arg3 harg3 arg4 harg4 arg5 harg5 arg6 harg6) K } := by
  refine ⟨[], ?_, fun xi2 E K => ?run⟩
  case run =>
    simp only [cc5__gather_body_eq_skeleton]; unfold cc5__gather_body_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

/-- Case A stores nothing into output 2 (the window is idle at its points and not written back there):
    no pieces — a placeholder (junk read back) that nothing consults, since at these points the window is neither
    written back nor read at the next point. -/
def out5_A_2 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i)
    (x0 : Vec F S512x1 .i32) (x1 : Vec F S512x512 .f32) : Vec F S512x512 .f32 :=
  VO5_2.read (Elt F) (VO5_2.writes (Elt F) VO5_2.junk (kernelRun5_A c i arg3 harg3 arg4 harg4 arg5 harg5 arg6 harg6 hc0 hc1 x0 x1).1)

/-- Case A's pieces for scratch `arg6`, which the kernel carries between points, cover it: 2 pieces of `S512x512` tiling it. -/
theorem scover5_A_0 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i)
    (x0 : Vec F S512x1 .i32) (x1 : Vec F S512x512 .f32) (y : S512x512.Idx) :
    ∃ pc ∈ (kernelRun5_A c i arg3 harg3 arg4 harg4 arg5 harg5 arg6 harg6 hc0 hc1 x0 x1).2.1, y ∈ pc.1.set :=
  View.cover_of_tiledL (kernelRun5_A c i arg3 harg3 arg4 harg4 arg5 harg5 arg6 harg6 hc0 hc1 x0 x1).2.1 S512x512.size (by sl_kernel_rfl) y

/-- What case A leaves in scratch `arg6`: its pieces read back over junk. -/
def sout5_A_0 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i)
    (x0 : Vec F S512x1 .i32) (x1 : Vec F S512x512 .f32) : Vec F S512x512 .f32 :=
  VS5_0.read (Elt F) (VS5_0.writes (Elt F) VS5_0.junk (kernelRun5_A c i arg3 harg3 arg4 harg4 arg5 harg5 arg6 harg6 hc0 hc1 x0 x1).2.1)

set_option maxHeartbeats 1000000 in
/-- What the body's stores leave in each output's staging memref, as pieces (last first) IN CASE B (`scf.if` 0 not taken, `scf.if` 1 not taken: points 1, 2, … 1022: 896 of 1024), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: each branch is decided by the case's hypotheses `hc·`, and the pieces are those that the execution of the body leaves. -/
noncomputable def kernelRun5_B (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i)
    (x0 : Vec F S512x1 .i32) (x1 : Vec F S512x512 .f32) (xs0 : Vec F S512x512 .f32) :
    Σ' (L2 : List (View.Piece (Elt F) S512x512 .f32)), { LS0 : List (View.Piece (Elt F) S512x512 .f32) //
      ∀ (xi2 : Vec F S512x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc5__gather_body i arg3 harg3 arg4 harg4 arg5 harg5 arg6 harg6) K } := by
  refine ⟨[], ?_, fun xi2 E K => ?run⟩
  case run =>
    simp only [cc5__gather_body_eq_skeleton]; unfold cc5__gather_body_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

/-- Case B stores nothing into output 2 (the window is idle at its points and not written back there):
    no pieces — a placeholder (junk read back) that nothing consults, since at these points the window is neither
    written back nor read at the next point. -/
def out5_B_2 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i)
    (x0 : Vec F S512x1 .i32) (x1 : Vec F S512x512 .f32) (xs0 : Vec F S512x512 .f32) : Vec F S512x512 .f32 :=
  VO5_2.read (Elt F) (VO5_2.writes (Elt F) VO5_2.junk (kernelRun5_B c i arg3 harg3 arg4 harg4 arg5 harg5 arg6 harg6 hc0 hc1 x0 x1 xs0).1)

/-- Case B's pieces for scratch `arg6`, which the kernel carries between points, cover it: 1 piece of `S512x512` tiling it. -/
theorem scover5_B_0 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i)
    (x0 : Vec F S512x1 .i32) (x1 : Vec F S512x512 .f32) (xs0 : Vec F S512x512 .f32) (y : S512x512.Idx) :
    ∃ pc ∈ (kernelRun5_B c i arg3 harg3 arg4 harg4 arg5 harg5 arg6 harg6 hc0 hc1 x0 x1 xs0).2.1, y ∈ pc.1.set :=
  View.cover_of_tiledL (kernelRun5_B c i arg3 harg3 arg4 harg4 arg5 harg5 arg6 harg6 hc0 hc1 x0 x1 xs0).2.1 S512x512.size (by sl_kernel_rfl) y

/-- What case B leaves in scratch `arg6`: its pieces read back over junk. -/
def sout5_B_0 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i)
    (x0 : Vec F S512x1 .i32) (x1 : Vec F S512x512 .f32) (xs0 : Vec F S512x512 .f32) : Vec F S512x512 .f32 :=
  VS5_0.read (Elt F) (VS5_0.writes (Elt F) VS5_0.junk (kernelRun5_B c i arg3 harg3 arg4 harg4 arg5 harg5 arg6 harg6 hc0 hc1 x0 x1 xs0).2.1)

set_option maxHeartbeats 1000000 in
/-- What the body's stores leave in each output's staging memref, as pieces (last first) IN CASE C (`scf.if` 0 not taken, `scf.if` 1 taken: points 15, 31, … 1023: 64 of 1024), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: each branch is decided by the case's hypotheses `hc·`, and the pieces are those that the execution of the body leaves. -/
noncomputable def kernelRun5_C (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i)
    (x0 : Vec F S512x1 .i32) (x1 : Vec F S512x512 .f32) (xs0 : Vec F S512x512 .f32) :
    Σ' (L2 : List (View.Piece (Elt F) S512x512 .f32)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc5__gather_body i arg3 harg3 arg4 harg4 arg5 harg5 arg6 harg6) K } := by
  refine ⟨?_, ?_, fun E K => ?run⟩
  case run =>
    simp only [cc5__gather_body_eq_skeleton]; unfold cc5__gather_body_skel
    simp only [k5_part1_eq_skeleton, k5_part2_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-- Case C's pieces for output 2 tile its block (1 store of `S512x512`), so they cover it. -/
theorem cover5_C_2 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i)
    (x0 : Vec F S512x1 .i32) (x1 : Vec F S512x512 .f32) (xs0 : Vec F S512x512 .f32) (y : S512x512.Idx) :
    ∃ pc ∈ (kernelRun5_C c i arg3 harg3 arg4 harg4 arg5 harg5 arg6 harg6 hc0 hc1 x0 x1 xs0).1, y ∈ pc.1.set :=
  View.cover_of_tiledL (kernelRun5_C c i arg3 harg3 arg4 harg4 arg5 harg5 arg6 harg6 hc0 hc1 x0 x1 xs0).1 S512x512.size (by sl_kernel_rfl) y

/-- What case C leaves in output 2's staging buffer: its pieces read back over junk. -/
def out5_C_2 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i)
    (x0 : Vec F S512x1 .i32) (x1 : Vec F S512x512 .f32) (xs0 : Vec F S512x512 .f32) : Vec F S512x512 .f32 :=
  VO5_2.read (Elt F) (VO5_2.writes (Elt F) VO5_2.junk (kernelRun5_C c i arg3 harg3 arg4 harg4 arg5 harg5 arg6 harg6 hc0 hc1 x0 x1 xs0).1)

/-- Case C's pieces for scratch `arg6`, which the kernel carries between points, cover it: 1 piece of `S512x512` tiling it. -/
theorem scover5_C_0 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i)
    (x0 : Vec F S512x1 .i32) (x1 : Vec F S512x512 .f32) (xs0 : Vec F S512x512 .f32) (y : S512x512.Idx) :
    ∃ pc ∈ (kernelRun5_C c i arg3 harg3 arg4 harg4 arg5 harg5 arg6 harg6 hc0 hc1 x0 x1 xs0).2.1, y ∈ pc.1.set :=
  View.cover_of_tiledL (kernelRun5_C c i arg3 harg3 arg4 harg4 arg5 harg5 arg6 harg6 hc0 hc1 x0 x1 xs0).2.1 S512x512.size (by sl_kernel_rfl) y

/-- What case C leaves in scratch `arg6`: its pieces read back over junk. -/
def sout5_C_0 (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i)
    (x0 : Vec F S512x1 .i32) (x1 : Vec F S512x512 .f32) (xs0 : Vec F S512x512 .f32) : Vec F S512x512 .f32 :=
  VS5_0.read (Elt F) (VS5_0.writes (Elt F) VS5_0.junk (kernelRun5_C c i arg3 harg3 arg4 harg4 arg5 harg5 arg6 harg6 hc0 hc1 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before5_W_κ`). An assignment of the conditions no point meets is no case. -/
def outsAt5 (c : Dev nD) : (n : ℕ) → n < cfg5.N → Vec F S512x512 .f32 × Vec F S512x512 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 16 = 0 then
      if h1 : (n + 1) % 16 = 15 then
        False.elim (by have hN : n + 1 < 1024 := lt_of_lt_of_eq hn (show cfg5.N = 1024 from N_5); omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 16 = 15 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2)

/-- `outsAt5` at a point of case A: that case's contents. -/
theorem outsAt5_A (c : Dev nD) (t : Fin cfg5.N) (h0 : t.val % 16 = 0) (h1 : ¬t.val % 16 = 15) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

/-- `outsAt5` at a point of case B: that case's contents, over what the point before left. -/
theorem outsAt5_B (c : Dev nD) (t : Fin cfg5.N) (h0 : ¬t.val % 16 = 0) (h1 : ¬t.val % 16 = 15) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point of case C: that case's contents, over what the point before left. -/
theorem outsAt5_C (c : Dev nD) (t : Fin cfg5.N) (h0 : ¬t.val % 16 = 0) (h1 : t.val % 16 = 15) :
    outsAt5 V c t.val t.isLt = (out5_C_2 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's; afterwards the scoped rest with each carried scratch
    at what the point before left in it (`outsAt5`'s scratch components), the others at anything, and the generator register
    at some state. -/
def Phi5S (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut spec5 c [cc5_scratch0]) ∗ (∃ r, prngReg c r))

theorem Phi5S_zero (c : Dev nD) (n : ℕ) (h : n ≤ cfg5.N) (hz : n = 0) : Phi5S V c n h = Pipeline.ΦA spec5 c := by
  subst hz; rfl

/-- After point `n` (before point `n + 1`): the carried scratch at that point's contents. -/
theorem Phi5S_succ (c : Dev nD) (n : ℕ) (hn : n < cfg5.N) :
    Phi5S V c (n + 1) hn = iprop(iprop(owns (c : Thread nD τ) scM5_0 fullShare ((outsAt5 V c n hn).2) ∗ Pipeline.scopedRestBut spec5 c [cc5_scratch0]) ∗ (∃ r, prngReg c r)) := rfl

/-- Before a point that is not the first: the carried scratch at what the point before left. -/
theorem Phi5S_pos (c : Dev nD) (n : ℕ) (h : n ≤ cfg5.N) (hz : n ≠ 0) :
    Phi5S V c n h = iprop(iprop(owns (c : Thread nD τ) scM5_0 fullShare ((outsAt5 V c (n - 1) (by omega)).2) ∗ Pipeline.scopedRestBut spec5 c [cc5_scratch0]) ∗ (∃ r, prngReg c r)) := by
  cases n with
  | zero => exact absurd rfl hz
  | succ n => rfl

/-! ## The pipeline's proof data -/

/-- The proof data of pipeline 5 on core `c`: the arrays as the region finds them (`V`); after the body at
    point `t` each input's buffer at its block and the outputs' at `outsAt5`; the invariant the class's
    (`Phi5S`: the class's `ΦA` before the first point, then the scoped rest with the carried scratch at `outsAt5`'s component);
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := Phi5S V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start (the proof data at `t.castSucc`), restated at `t.val`. -/
theorem Phi5S_castSucc (c : Dev nD) (t : Fin cfg5.N) :
    (dat5 V c).Φ t.castSucc = Phi5S V c t.val (Nat.le_of_lt t.isLt) := by
  dsimp only [dat5]; exact Pipeline.Dat.Φ_castSucc (Phi5S V c) t

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: the inputs' memrefs hold their blocks (`before5_W`); the closed forms say which case the point is in, an output the case reads before covering holds what the point before left (`before5_W_κ`); so the
    run applies; the invariant hands the body the carried scratch at what the point before left (`Phi5S_pos`; at anything at the first point, `Phi5S_zero`), the other scratch buffers and the generator register at some state, and takes the carried scratch back at this point's contents (`Phi5S_succ`, by `scoverK_κ_N`); the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = Phi5S V c (t.val + 1) t.isLt from rfl, Phi5S_succ]
  have hN : t.val < 1024 := lt_of_lt_of_eq t.isLt (show cfg5.N = 1024 from N_5)
  by_cases h0 : t.val % 16 = 0
  · by_cases h1 : t.val % 16 = 15
    · exfalso; omega
    · rw [show (dat5 V c).leavesExact 0 t = owns (c : Thread nD τ) (ms5_0 t) fullShare ((dat5 V c).after 0 t) from by
      unfold Dat.leavesExact; rw [liveAt5_0 t], after5_0]
      rw [show (dat5 V c).leavesExact 1 t = owns (c : Thread nD τ) (ms5_1 t) fullShare ((dat5 V c).after 1 t) from by
      unfold Dat.leavesExact; rw [liveAt5_1 t], after5_1]
      rw [Dat.leavesExact_idle (dat5 V c) 2 t (idleAt5_2_A t ((hcond5_0 t).mpr h0) (fun h => h1 ((hcond5_1 t).mp h))) (noFlush5_2_A t ((hcond5_0 t).mpr h0) (fun h => h1 ((hcond5_1 t).mp h)))]
      by_cases hz : t.val = 0
      · rw [Phi5S_castSucc V c t, Phi5S_zero V c _ _ hz, PhiA5_eq]
        rw [outsAt5_A V c t h0 h1]
        unfold sout5_A_0; (try dsimp only)
        iintro ⟨⟨⟨HS0, HR1⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover5_A_0 c _ _ _ _ _ _ _ _ _ _ _ _ _)
            iexact HR1
          iexact Hg
        isplitl [Ho]; · iexact Ho
        isplitl [H0]; · iexact H0
        isplitl [H1]; · iexact H1
        iexists _; iexact H2
      · rw [Phi5S_castSucc V c t, Phi5S_pos V c _ _ hz]
        rw [outsAt5_A V c t h0 h1]
        unfold sout5_A_0; (try dsimp only)
        iintro ⟨⟨⟨HS0, HR1⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover5_A_0 c _ _ _ _ _ _ _ _ _ _ _ _ _)
            iexact HR1
          iexact Hg
        isplitl [Ho]; · iexact Ho
        isplitl [H0]; · iexact H0
        isplitl [H1]; · iexact H1
        iexists _; iexact H2
  · by_cases h1 : t.val % 16 = 15
    · rw [show (dat5 V c).leavesExact 0 t = owns (c : Thread nD τ) (ms5_0 t) fullShare ((dat5 V c).after 0 t) from by
      unfold Dat.leavesExact; rw [liveAt5_0 t], after5_0]
      rw [show (dat5 V c).leavesExact 1 t = owns (c : Thread nD τ) (ms5_1 t) fullShare ((dat5 V c).after 1 t) from by
      unfold Dat.leavesExact; rw [liveAt5_1 t], after5_1]
      rw [show (dat5 V c).leavesExact 2 t = owns (c : Thread nD τ) (ms5_2 t) fullShare ((dat5 V c).after 2 t) from by
      unfold Dat.leavesExact; rw [liveAt5_2_C t (fun h => h0 ((hcond5_0 t).mp h)) ((hcond5_1 t).mpr h1)], after5_2]
      by_cases hz : t.val = 0
      · exfalso; have hN : t.val < 1024 := lt_of_lt_of_eq t.isLt (show cfg5.N = 1024 from N_5); omega
      · rw [Phi5S_castSucc V c t, Phi5S_pos V c _ _ hz]
        rw [outsAt5_C V c t h0 h1]
        unfold out5_C_2 sout5_C_0; (try dsimp only)
        iintro ⟨⟨⟨HS0, HR1⟩, Hg⟩, Ho, ⟨%d0, H0⟩, ⟨%d1, H1⟩, ⟨%d2, H2⟩⟩
        iapply ((kernelRun5_C c (grid5.coords t) _ _ _ _ _ _ _ _ (fun h => h0 ((hcond5_0 t).mp h)) ((hcond5_1 t).mpr h1) (iblk5 V c 0 t) (iblk5 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover5_C_0 c _ _ _ _ _ _ _ _ _ _ _ _ _ _)
            iexact HR1
          iexact Hg
        isplitl [Ho]; · iexact Ho
        isplitl [H0]; · iexact H0
        isplitl [H1]; · iexact H1
        unfold owns; iexists _; isplitr
        swap; · iexact H2
        ipureintro; exact View.read_writes_of_cover _ _ _ _ _ (cover5_C_2 c _ _ _ _ _ _ _ _ _ _ _ _ _ _)
    · rw [show (dat5 V c).leavesExact 0 t = owns (c : Thread nD τ) (ms5_0 t) fullShare ((dat5 V c).after 0 t) from by
      unfold Dat.leavesExact; rw [liveAt5_0 t], after5_0]
      rw [show (dat5 V c).leavesExact 1 t = owns (c : Thread nD τ) (ms5_1 t) fullShare ((dat5 V c).after 1 t) from by
      unfold Dat.leavesExact; rw [liveAt5_1 t], after5_1]
      rw [Dat.leavesExact_idle (dat5 V c) 2 t (idleAt5_2_B t (fun h => h0 ((hcond5_0 t).mp h)) (fun h => h1 ((hcond5_1 t).mp h))) (noFlush5_2_B t (fun h => h0 ((hcond5_0 t).mp h)) (fun h => h1 ((hcond5_1 t).mp h)))]
      by_cases hz : t.val = 0
      · exfalso; have hN : t.val < 1024 := lt_of_lt_of_eq t.isLt (show cfg5.N = 1024 from N_5); omega
      · rw [Phi5S_castSucc V c t, Phi5S_pos V c _ _ hz]
        rw [outsAt5_B V c t h0 h1]
        unfold sout5_B_0; (try dsimp only)
        iintro ⟨⟨⟨HS0, HR1⟩, Hg⟩, Ho, ⟨%d0, H0⟩, ⟨%d1, H1⟩, ⟨%d2, H2⟩⟩
        iapply ((kernelRun5_B c (grid5.coords t) _ _ _ _ _ _ _ _ (fun h => h0 ((hcond5_0 t).mp h)) (fun h => h1 ((hcond5_1 t).mp h)) (iblk5 V c 0 t) (iblk5 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover5_B_0 c _ _ _ _ _ _ _ _ _ _ _ _ _ _)
            iexact HR1
          iexact Hg
        isplitl [Ho]; · iexact Ho
        isplitl [H0]; · iexact H0
        isplitl [H1]; · iexact H1
        iexists _; iexact H2

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

/-- What the launch hands the region (`ΦA`) is the invariant before the first point. -/
theorem hin5 (c : Dev nD) : Pipeline.ΦA spec5 c ⊢ (dat5 V c).Φ 0 := by
  rw [show (dat5 V c).Φ 0 = Phi5S V c 0 (Nat.zero_le _) from rfl, Phi5S_zero V c 0 _ rfl]
  try exact Idealize.SL.BI.Entails.refl _

/-- After any point but the first the invariant gives `ΦA` back: the carried scratch's named contents are forgotten. -/
theorem Phi5_out (c : Dev nD) (t : Fin (cfg5.N + 1)) (ht : t.val ≠ 0) : (dat5 V c).Φ t ⊢ Pipeline.ΦA spec5 c := by
  rw [show (dat5 V c).Φ t = Phi5S V c t.val (Nat.le_of_lt_succ t.isLt) from rfl, Phi5S_pos V c _ _ ht, PhiA5_eq]
  iintro ⟨⟨HS0, HR⟩, Hg⟩
  isplitl [HS0 HR]
  · isplitl [HS0]
    · iexists _; iexact HS0
    iexact HR
  iexact Hg

/-- The same after the last point. -/
theorem hout5 (c : Dev nD) : (dat5 V c).Φ (Fin.last cfg5.N) ⊢ Pipeline.ΦA spec5 c :=
  Phi5_out V c _ (by rw [Fin.val_last]; have : cfg5.N = 1024 := N_5; omega)

end Cert.KernelIdeal.Run
-- ==== Proof.Launched.lean ====
module

public import proofs.«01_k».proof.Proof.R0
public import proofs.«01_k».proof.Proof.R1
public import proofs.«01_k».proof.Proof.R2
public import proofs.«01_k».proof.Proof.R3
public import proofs.«01_k».proof.Proof.R4
public import proofs.«01_k».proof.Proof.R5
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2, main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays. -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v10, main_v11, main_v12, main_v13, main_v14]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays. -/
theorem hostOps4_args : ∀ a ∈ argRefs, a ∉ hostOps4_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v16]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays. -/
theorem hostOps5_args : ∀ a ∈ argRefs, a ∉ hostOps5_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (region 3's entry). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's. -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered, each output's write-backs
    folded: `Dat.arrAt … N`), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's. -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4` (region 4's entry). -/
abbrev W7 : Dev nD → Valuation τ sig (Elt F) := fun c => StableHlo.after hostOps4 (W6 m ρ c)
/-- A reference `hostOps4` does not write keeps its contents across it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)
/-- The same read at the TensorCore's references (what region 4's proof data take). -/
abbrev V7 : (c : Dev nD) → (b : Ref sig .tc) → Buf (Elt F) ((c : Thread nD τ).loc b) := fun c b => W7 m ρ c b
/-- At region 4's exit: its arrays at what the pipeline leaves (the inputs as entered, each output's write-backs
    folded: `Dat.arrAt … N`), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- A reference that is none of region 4's OUTPUT arrays keeps its entry contents across it: an input window's
    array is never written back (`Dat.arrAt_in`, `A_eq4`); any other buffer is left as is. -/
theorem W8_of (c : Dev nD) (r : Ref sig .tc) (h : ∀ w : Fin cfg4.W, Pipeline.arrRef spec4 w = r → (cfg4.win w).isOut = false) :
    W8 m ρ c (Proc.devRef .tc r) = W7 m ρ c (Proc.devRef .tc r) := by
  by_cases hw : ∃ w : Fin cfg4.W, Pipeline.arrRef spec4 w = r
  · obtain ⟨w, rfl⟩ := hw
    exact (W8_arr m ρ c w).trans (((dat4 (V7 m ρ) c).arrAt_in w (h w rfl) _).trans (A_eq4 (V7 m ρ) c w))
  · exact W8_of_ne m ρ c r fun w e => hw ⟨w, e⟩
/-- Every argument among region 4's arrays is an input window's. -/
theorem argsIn4 : ∀ a ∈ argRefs, ∀ w : Fin cfg4.W, Pipeline.arrRef spec4 w = a → (cfg4.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn4 a ha)).trans (W7_args m ρ c a ha)
/-- The same read at the TensorCore's references (region 4's exit contents). -/
abbrev V8 : (c : Dev nD) → (b : Ref sig .tc) → Buf (Elt F) ((c : Thread nD τ).loc b) := fun c b => W8 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After `hostOps5` (region 5's entry). -/
abbrev W9 : Dev nD → Valuation τ sig (Elt F) := fun c => StableHlo.after hostOps5 (W8 m ρ c)
/-- A reference `hostOps5` does not write keeps its contents across it. -/
theorem W9_of (c : Dev nD) (r : Ref sig .tc) (h : r ∉ hostOps5_W) : W9 m ρ c (Proc.devRef .tc r) = W8 m ρ c (Proc.devRef .tc r) :=
  StableHlo.after_of_writes_sub hostOps5 _ hostOps5_writes h
theorem W9_args (c : Dev nD) : ∀ a ∈ argRefs, W9 m ρ c (Proc.devRef .tc a) = m ((c : Thread nD τ).loc a) :=
  fun a ha => (W9_of m ρ c a (hostOps5_args a ha)).trans (W8_args m ρ c a ha)
/-- The same read at the TensorCore's references (what region 5's proof data take). -/
abbrev V9 : (c : Dev nD) → (b : Ref sig .tc) → Buf (Elt F) ((c : Thread nD τ).loc b) := fun c b => W9 m ρ c b
/-- At region 5's exit: its arrays at what the pipeline leaves (the inputs as entered, each output's write-backs
    folded: `Dat.arrAt … N`), every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- A reference that is none of region 5's OUTPUT arrays keeps its entry contents across it: an input window's
    array is never written back (`Dat.arrAt_in`, `A_eq5`); any other buffer is left as is. -/
theorem W10_of (c : Dev nD) (r : Ref sig .tc) (h : ∀ w : Fin cfg5.W, Pipeline.arrRef spec5 w = r → (cfg5.win w).isOut = false) :
    W10 m ρ c (Proc.devRef .tc r) = W9 m ρ c (Proc.devRef .tc r) := by
  by_cases hw : ∃ w : Fin cfg5.W, Pipeline.arrRef spec5 w = r
  · obtain ⟨w, rfl⟩ := hw
    exact (W10_arr m ρ c w).trans (((dat5 (V9 m ρ) c).arrAt_in w (h w rfl) _).trans (A_eq5 (V9 m ρ) c w))
  · exact W10_of_ne m ρ c r fun w e => hw ⟨w, e⟩
/-- Every argument among region 5's arrays is an input window's. -/
theorem argsIn5 : ∀ a ∈ argRefs, ∀ w : Fin cfg5.W, Pipeline.arrRef spec5 w = a → (cfg5.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn5 a ha)).trans (W9_args m ρ c a ha)
/-- The same read at the TensorCore's references (region 5's exit contents). -/
abbrev V10 : (c : Dev nD) → (b : Ref sig .tc) → Buf (Elt F) ((c : Thread nD τ).loc b) := fun c b => W10 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) (A_eq4 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 (custom_call 5) over the thread state: entered from every unscoped buffer at `W9`, left at `W10`
    (what the launch reads at the end). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) (A_eq5 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V9 m ρ) c)
    unfold Pipeline.ΦA
    iintro ⟨Hp, -, Hr⟩
    isplitl [Hr]; · iexact Hr
    iexact Hp
  hout c := by
    rw [Pipeline.ownSems0_none]
    refine BIBase.Entails.trans (hout5 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .region (reg3 m ρ),
    .host (hseg hostOps4 hostOps4_sub hostOps4_fresh (W6 m ρ)),
    .region (reg4 m ρ),
    .host (hseg hostOps5 hostOps5_sub hostOps5_fresh (W8 m ρ)),
    .region (reg5 m ρ) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The whole run at any floats: every weakly fair execution ends, with every unscoped buffer at the last boundary's
    contents `W10` and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W10 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨fun c b hb => h c b hb, funext fun g => hz g (.inr (no_unscoped g.2))⟩)

/-- The arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W10_main_arg0 m ρ c),
       (h.1 c _ (mem_uc main_arg1 (by decide))).trans (W10_main_arg1 m ρ c),
       (h.1 c _ (mem_uc main_arg2 (by decide))).trans (W10_main_arg2 m ρ c),
       (h.1 c _ (mem_uc main_arg3 (by decide))).trans (W10_main_arg3 m ρ c)⟩, h.2⟩) (run m ρ)

end Cert.KernelIdeal.Run
-- ==== Proof.Transport.lean ====
module

public import proofs.«01_k».proof.Proof.Gen.Kernel
public import proofs.«01_k».proof.Proof.Gen.KernelIdeal

@[expose] public section

noncomputable section

namespace Cert.Transport

open Idealize.ShloMosaic Idealize.ShloMosaic.TcCoe Idealize.SL.Sem

variable {F : FTy → Type} [FloatOps F]

/-- A kernel's body table on the TensorCore, at the labels of the idealized program. -/
abbrev Table (F : FTy → Type) : Type 1 := (l : Cert.KernelIdeal.Λ₀.Label) → Cert.KernelIdeal.Λ₀.Args l →
  Prog (TpuEff Cert.KernelIdeal.nD Cert.KernelIdeal.τ Cert.KernelIdeal.sig (Elt F) Cert.KernelIdeal.Λ₀ .tc) (Cert.KernelIdeal.Λ₀.Result l)

def table₁ : Table F := Cert.Kernel.defs₀ (F := F) .tc
def table₂ : Table F := Cert.KernelIdeal.defs₀ (F := F) .tc

theorem table_eq0 : (table₁ (F := F) (0 : Fin 6)) = table₂ (0 : Fin 6) := funext fun (_, _) => rfl
theorem table_eq1 : (table₁ (F := F) (1 : Fin 6)) = table₂ (1 : Fin 6) := funext fun (_, _) => rfl
theorem table_eq2 : (table₁ (F := F) (2 : Fin 6)) = table₂ (2 : Fin 6) := funext fun (_, _) => rfl
theorem table_eq3 : (table₁ (F := F) (3 : Fin 6)) = table₂ (3 : Fin 6) := funext fun (_, _) => rfl
theorem table_eq4 : (table₁ (F := F) (4 : Fin 6)) = table₂ (4 : Fin 6) := funext fun (_, _) => rfl
theorem table_eq5 : (table₁ (F := F) (5 : Fin 6)) = table₂ (5 : Fin 6) := funext fun (_, _) => rfl

theorem table_eq : table₁ (F := F) = table₂ := by
  have h : ∀ l : Fin 6, table₁ (F := F) l = table₂ l := by
    rw [Fin.forall_fin_succ, Fin.forall_fin_succ, Fin.forall_fin_succ, Fin.forall_fin_succ, Fin.forall_fin_succ, Fin.forall_fin_one]
    exact ⟨table_eq0, table_eq1, table_eq2, table_eq3, table_eq4, table_eq5⟩
  exact funext h

/-- The body tables on every processor, at the idealized program's labels. -/
abbrev Full (F : FTy → Type) : Type 1 := Defs Cert.KernelIdeal.nD Cert.KernelIdeal.τ Cert.KernelIdeal.sig (Elt F) Cert.KernelIdeal.Λ₀

def full₁ : Full F := Cert.Kernel.defs₀ (F := F)
def full₂ : Full F := Cert.KernelIdeal.defs₀ (F := F)

theorem full₁_tc : full₁ (F := F) .tc = table₁ := rfl
theorem full₂_tc : full₂ (F := F) .tc = table₂ := rfl
theorem full_s (x) : full₁ (F := F) (.scScalar x) = full₂ (.scScalar x) := rfl
theorem full_v (x y) : full₁ (F := F) (.scVector x y) = full₂ (.scVector x y) := rfl

theorem full_eq : full₁ (F := F) = full₂ := by
  funext p
  cases p with
  | tc => rw [full₁_tc, full₂_tc, table_eq]
  | scScalar x => rw [full_s]
  | scVector x y => rw [full_v]

/-- The two programs' body tables are the same. -/
theorem defs_eq : (Cert.Kernel.defs (F := F) : Defs Cert.KernelIdeal.nD Cert.KernelIdeal.τ Cert.KernelIdeal.sig (Elt F)
      (Pipeline.Sig Cert.KernelIdeal.Λ₀ (Fin 6) fun p => (Cert.KernelIdeal.pcfgs (F := F) p).Adm))
    = Cert.KernelIdeal.defs (F := F) :=
  congrArg (Pipeline.defs Cert.KernelIdeal.pcfgs) full_eq

/-- The two programs' body tables and host programs, at the idealized program's signature. -/
def bodies : Defs Cert.KernelIdeal.nD Cert.KernelIdeal.τ Cert.KernelIdeal.sig (Elt F)
      (Pipeline.Sig Cert.KernelIdeal.Λ₀ (Fin 6) fun p => (Cert.KernelIdeal.pcfgs (F := F) p).Adm) := Cert.Kernel.defs (F := F)

theorem bodies_eq : bodies (F := F) = Cert.KernelIdeal.defs := defs_eq

def host : Dev Cert.KernelIdeal.nD → Prog (TpuEff Cert.KernelIdeal.nD Cert.KernelIdeal.τ Cert.KernelIdeal.sig (Elt F)
      (Pipeline.Sig Cert.KernelIdeal.Λ₀ (Fin 6) fun p => (Cert.KernelIdeal.pcfgs (F := F) p).Adm) .tc) PUnit := Cert.Kernel.main (F := F)

theorem host_eq : host (F := F) = Cert.KernelIdeal.main := rfl

theorem run_eq (s Q) : θ_run (bodies (F := F)) (onTc (τ := Cert.KernelIdeal.τ) host) s Q
    = θ_run (Cert.KernelIdeal.defs (F := F)) (onTc (τ := Cert.KernelIdeal.τ) Cert.KernelIdeal.main) s Q := by
  rw [bodies_eq, host_eq]

set_option maxHeartbeats 2000000 in
theorem run_same (s Q) : θ_run (Cert.Kernel.defs (F := F)) (onTc (τ := Cert.Kernel.τ) Cert.Kernel.main) s Q
    = θ_run (bodies (F := F)) (onTc (τ := Cert.KernelIdeal.τ) host) s Q := rfl

end Cert.Transport
-- ==== Proof.Norm.lean ====
module

public import Idealize.ShloMosaic.PureOps.Ideal.Laws

@[expose] public section

noncomputable section

namespace Cert.Spec

open Idealize.ShloMosaic

/-- The key of one column: the square root of the sum of the squares of magnitude times scale. -/
def colNorm {R : ℕ} (x h : Fin R → EReal) : EReal :=
  FloatOps.hostUnary (F := Ideal) (φ := .f32) .sqrt (∑ r : Fin R,
    FloatOps.mulf (F := Ideal) (φ := .f32) (FloatOps.mulf (F := Ideal) (φ := .f32) (FloatOps.absf (F := Ideal) (φ := .f32) (x r)) (h r))
      (FloatOps.mulf (F := Ideal) (φ := .f32) (FloatOps.absf (F := Ideal) (φ := .f32) (x r)) (h r)))

end Cert.Spec

end
-- ==== Proof.Spec.lean ====
/-
  The order and selection facts the value proof rests on, free of the two programs: the rank of a position in a stable
  descending sort, the interleaving of the upper and the lower half, and the two greatest of four.
-/
module

public import Idealize.ShloMosaic.Lib.PlanTiles.StableSort
public import Mathlib.Data.EReal.Basic

@[expose] public section

noncomputable section

namespace Cert.Spec

open Idealize.ShloMosaic

section Rank

variable {n : Nat} {κ : Type} [LinearOrder κ] (key : Fin n → κ)

/-- Position `j` stands before position `i` in the stable descending order of the keys. -/
def Bef (j i : Fin n) : Prop := key i < key j ∨ (key j = key i ∧ j < i)

open Classical in
/-- How many positions stand before `i`. -/
def rk (i : Fin n) : Nat := (Finset.univ.filter fun j => Bef key j i).card

open Classical in
theorem rk_eq_sum (i : Fin n) : rk key i = ∑ j, if Bef key j i then 1 else 0 := by
  unfold rk; rw [Finset.card_filter]

theorem bef_irrefl (i : Fin n) : ¬ Bef key i i := by
  rintro (h | ⟨-, h⟩)
  · exact lt_irrefl _ h
  · exact lt_irrefl _ h

theorem bef_asymm {i j : Fin n} (h : Bef key i j) : ¬ Bef key j i := by
  rintro (h' | ⟨e, h'⟩) <;> rcases h with h | ⟨e2, h⟩
  · exact lt_asymm h h'
  · rw [e2] at h'; exact lt_irrefl _ h'
  · rw [e] at h; exact lt_irrefl _ h
  · exact lt_asymm h h'

/-- The number of positions with a lesser key: a natural number that orders the positions as their keys do. -/
def below (i : Fin n) : Nat := (Finset.univ.filter fun j => key j < key i).card

theorem below_lt_iff (x y : Fin n) : below key x < below key y ↔ key x < key y := by
  constructor
  · intro h
    by_contra hc
    have hle : key y ≤ key x := not_lt.mp hc
    exact absurd (Finset.card_le_card (s := Finset.univ.filter fun j => key j < key y)
      (t := Finset.univ.filter fun j => key j < key x) fun j hj => by
        simp only [Finset.mem_filter, Finset.mem_univ, true_and] at hj ⊢; exact lt_of_lt_of_le hj hle) (not_le.mpr h)
  · intro h
    refine Finset.card_lt_card (Finset.ssubset_iff_subset_ne.mpr ⟨fun j hj => ?_, fun e => ?_⟩)
    · simp only [Finset.mem_filter, Finset.mem_univ, true_and] at hj ⊢; exact lt_trans hj h
    · have hx : x ∈ Finset.univ.filter fun j => key j < key y := by simpa using h
      rw [← e] at hx
      simp at hx

variable (b : Fin n → Fin n → Bool) (hb : ∀ x y, b x y = true ↔ key y < key x)
include hb

theorem sortedFrom_bef {r s : Fin n} (h : r < s) : Bef key (sortedFrom b r) (sortedFrom b s) := by
  have e : b = fun x y => decide (below key y < below key x) := by
    funext x y
    rw [Bool.eq_iff_iff, hb, decide_eq_true_iff, below_lt_iff]
  have hp : (sortPositions n b).Pairwise (PlanTiles.Lex (below key) (· < ·)) := by
    rw [e]
    exact PlanTiles.pairwise_stableSort_lex _ _ _ (List.pairwise_lt_finRange n)
  have hg := List.pairwise_iff_get.mp hp (r.cast (length_sortPositions n b).symm) (s.cast (length_sortPositions n b).symm) h
  rcases hg with hg | ⟨hg, hlt⟩
  · exact Or.inl ((below_lt_iff key _ _).mp hg)
  · refine Or.inr ⟨?_, hlt⟩
    refine le_antisymm (not_lt.mp fun hc => ?_) (not_lt.mp fun hc => ?_)
    · exact absurd ((below_lt_iff key _ _).mpr hc) (by simp only [sortedFrom]; omega)
    · exact absurd ((below_lt_iff key _ _).mpr hc) (by simp only [sortedFrom]; omega)

/-- What a stable descending sort puts at place `r` has rank `r`. -/
theorem rk_sortedFrom (r : Fin n) : rk key (sortedFrom b r) = r.val := by
  classical
  have hset : (Finset.univ.filter fun j => Bef key j (sortedFrom b r)) = (Finset.univ.filter fun s : Fin n => s < r).image (sortedFrom b) := by
    ext j
    simp only [Finset.mem_filter, Finset.mem_univ, true_and, Finset.mem_image]
    obtain ⟨s, rfl⟩ := sortedFrom_surjective b j
    constructor
    · intro h
      refine ⟨s, ?_, rfl⟩
      rcases lt_trichotomy s r with h1 | h1 | h1
      · exact h1
      · subst h1; exact absurd h (bef_irrefl key _)
      · exact absurd h (bef_asymm key (sortedFrom_bef key b hb h1))
    · rintro ⟨t, ht, e⟩
      rw [← e]; exact sortedFrom_bef key b hb ht
  have hrk : rk key (sortedFrom b r) = (Finset.univ.filter fun j => Bef key j (sortedFrom b r)).card := by
    unfold rk; congr
  rw [hrk, hset, Finset.card_image_of_injective _ (sortedFrom_injective b)]
  exact (congrArg Finset.card (by ext s; simp)).trans (Fin.card_Iio r)

theorem eq_sortedFrom_iff (i r : Fin n) : i = sortedFrom b r ↔ rk key i = r.val := by
  constructor
  · rintro rfl; exact rk_sortedFrom key b hb r
  · intro h
    obtain ⟨s, rfl⟩ := sortedFrom_surjective b i
    rw [rk_sortedFrom key b hb s] at h
    rw [Fin.ext h]

omit hb in
theorem rk_lt (i : Fin n) : rk key i < n := by
  obtain ⟨s, rfl⟩ := sortedFrom_surjective (fun x y => decide (key y < key x)) i
  rw [rk_sortedFrom key _ (fun x y => by simp) s]; exact s.isLt

end Rank

/-! ## The interleaving -/

/-- The place the position of rank `r` goes to: the upper half by twos to the places 0, 1 of each window of four, the
    lower half from the end by twos to the places 2, 3. -/
def destOf (n r : Nat) : Nat := if r < n / 2 then 2 * r - r % 2 else 2 * (n - 1 - r) + 2 - (n - 1 - r) % 2

/-- The rank of what goes to place `p`. -/
def srcRank (n p : Nat) : Nat :=
  if p % 4 = 0 then 2 * (p / 4) else if p % 4 = 1 then 2 * (p / 4) + 1 else if p % 4 = 2 then n - 1 - 2 * (p / 4) else n - 2 - 2 * (p / 4)

theorem srcRank_lt {n p : Nat} (hn : n % 4 = 0) (hp : p < n) : srcRank n p < n := by
  unfold srcRank; split_ifs <;> omega

theorem destOf_lt {n r : Nat} (hn : n % 4 = 0) (hr : r < n) : destOf n r < n := by
  unfold destOf; split_ifs <;> omega

theorem destOf_eq_iff {n r p : Nat} (hn : n % 4 = 0) (hr : r < n) (hp : p < n) : destOf n r = p ↔ r = srcRank n p := by
  unfold destOf srcRank; split_ifs <;> omega

section Perm

variable {n : Nat} {κ : Type} [LinearOrder κ] (hn : n % 4 = 0) (key : Fin n → κ)

/-- The position that goes to place `p`. -/
def permOf (p : Fin n) : Fin n := sortedFrom (fun x y => decide (key y < key x)) ⟨srcRank n p.val, srcRank_lt hn p.isLt⟩

theorem permOf_eq (b : Fin n → Fin n → Bool) (hb : ∀ x y, b x y = true ↔ key y < key x) (p : Fin n) :
    sortedFrom b ⟨srcRank n p.val, srcRank_lt hn p.isLt⟩ = permOf hn key p := by
  refine (eq_sortedFrom_iff key _ (fun x y => by simp) _ _).mpr ?_
  exact rk_sortedFrom key b hb _

theorem dest_iff (i p : Fin n) : destOf n (rk key i) = p.val ↔ i = permOf hn key p := by
  rw [destOf_eq_iff hn (rk_lt key i) p.isLt]
  exact (eq_sortedFrom_iff key _ (fun x y => by simp) i ⟨srcRank n p.val, srcRank_lt hn p.isLt⟩).symm

end Perm

/-! ## The two greatest of four -/

/-- Place `e` of the four is one of the two greatest, an earlier place going first among equals. -/
def Keep {κ : Type} [LinearOrder κ] (a : Fin 4 → κ) (e : Fin 4) : Prop := rk a e < 2

theorem keep_iff {κ : Type} [LinearOrder κ] (a : Fin 4 → κ) (b : Fin 4 → Fin 4 → Bool) (hb : ∀ x y, b x y = true ↔ a y < a x) (e : Fin 4) :
    Keep a e ↔ e = sortedFrom b 0 ∨ e = sortedFrom b 1 := by
  rw [eq_sortedFrom_iff a b hb e 0, eq_sortedFrom_iff a b hb e 1]
  unfold Keep
  show _ ↔ _ = 0 ∨ _ = 1
  omega

end Cert.Spec

end
-- ==== Proof.Pay2.lean ====
module

public import proofs.«01_k».proof.Proof.Gen.KernelIdeal.Skeleton
public import proofs.«01_k».proof.Proof.Spec
public import Idealize.ShloMosaic.Lib.Pointwise

@[expose] public section

noncomputable section

namespace Cert.KernelIdeal.Run

open Cert.KernelIdeal Cert.KernelIdeal.Gen Cert.Spec
open Idealize.ShloMosaic Idealize.ShloMosaic.TcCoe Idealize.ShloMosaic.Tactic

/-- The lane's place in its group of four. -/
theorem k2_pay5_at (a b : Fin 512) : k2_pay5 (ix2 a b) = BitVec.ofNat 32 (b.val % 4) := by
  pointwise [k2_pay5]
  revert b
  decide +kernel

/-- Choosing by the place in the group. -/
theorem pick4 {α : Type} (c : ℕ) (hc : c < 4) (f0 f1 f2 f3 : α) :
    Scalar.select (IntOp.cmpi .eq (BitVec.ofNat 32 c) 0#32) f0
      (Scalar.select (IntOp.cmpi .eq (BitVec.ofNat 32 c) 1#32) f1
        (Scalar.select (IntOp.cmpi .eq (BitVec.ofNat 32 c) 2#32) f2 f3))
      = if c = 0 then f0 else if c = 1 then f1 else if c = 2 then f2 else f3 := by
  interval_cases c <;> rfl

theorem after4 (c : ℕ) (hc : c < 4) (k : ℕ) (hk : k < 4) :
    IntOp.cmpi .sgt (BitVec.ofNat 32 c) (BitVec.ofNat 32 k) = BitVec.ofBool (decide (k < c)) := by
  interval_cases c <;> interval_cases k <;> rfl

theorem bits_ori (p q r : Bool) :
    IntOp.ori (BitVec.ofBool p) (IntOp.andi (BitVec.ofBool q) (BitVec.ofBool r)) = BitVec.ofBool (p || (q && r)) := by
  cases p <;> cases q <;> cases r <;> rfl

/-- Fewer than two of four conditions hold, read off the counter's word. -/
theorem count4 {α : Type} (p0 p1 p2 p3 : Bool) (x y : α) :
    Scalar.select (IntOp.cmpi .slt (IntOp.addi (IntOp.addi (IntOp.addi (IntOp.addi 0#32 (BitVec.setWidth 32 (BitVec.ofBool p0)))
      (BitVec.setWidth 32 (BitVec.ofBool p1))) (BitVec.setWidth 32 (BitVec.ofBool p2))) (BitVec.setWidth 32 (BitVec.ofBool p3))) 2#32) x y
      = if p0.toNat + p1.toNat + p2.toNat + p3.toNat < 2 then x else y := by
  cases p0 <;> cases p1 <;> cases p2 <;> cases p3 <;> rfl

theorem toNat_or_and (p q r : Prop) [Decidable p] [Decidable q] [Decidable r] : (decide p || (decide q && decide r)).toNat = if p ∨ (q ∧ r) then 1 else 0 := by
  by_cases p <;> by_cases q <;> by_cases r <;> simp [*]

open Classical in
/-- Being among the two largest, as a count over the group. -/
theorem keep_count (A : Fin 4 → EReal) (e : Fin 4) : Keep A e ↔
    (decide (A e < A 0) || (decide (A 0 = A e) && decide (0 < e.val))).toNat + (decide (A e < A 1) || (decide (A 1 = A e) && decide (1 < e.val))).toNat
      + (decide (A e < A 2) || (decide (A 2 = A e) && decide (2 < e.val))).toNat + (decide (A e < A 3) || (decide (A 3 = A e) && decide (3 < e.val))).toNat < 2 := by
  have hb : ∀ k : Fin 4, (if Bef A k e then 1 else 0) = (decide (A e < A k) || (decide (A k = A e) && decide (k.val < e.val))).toNat := fun k => by
    rw [toNat_or_and]
    by_cases h : Bef A k e
    · rw [if_pos h, if_pos (show A e < A k ∨ A k = A e ∧ k.val < e.val from h)]
    · rw [if_neg h, if_neg (show ¬(A e < A k ∨ A k = A e ∧ k.val < e.val) from h)]
  unfold Keep
  rw [rk_eq_sum, Fin.sum_univ_four, hb 0, hb 1, hb 2, hb 3]
  rfl

/-- The indicator a mask's float word spells. -/
theorem sitofp_eq_bit (u v : BitVec 32) :
    (FloatOps.sitofp (F := Ideal) .f32 (BitVec.setWidth 32 (IntOp.cmpi .eq u v)) : EReal) = if u = v then 1 else 0 := by
  by_cases h : u = v
  · subst h
    rw [if_pos rfl, IntOp.cmpi_eq_self]
    show (((BitVec.setWidth 32 1#1).toInt : ℝ) : EReal) = 1
    norm_num
  · rw [if_neg h, show IntOp.cmpi .eq u v = 0#1 from ValueIdx.eq_zero_of_ne_one fun hh => h (by
      have h2 : BitVec.ofBool (u == v) = 1#1 := hh
      by_contra hne
      rw [beq_eq_false_iff_ne.mpr hne] at h2
      exact absurd h2 (by decide))]
    show (((BitVec.setWidth 32 0#1).toInt : ℝ) : EReal) = 0
    norm_num

theorem gather_tail (x0 : Vec Ideal S512x1 .i32) (xs x1 : Vec Ideal S512x512 .f32) (n : ℕ) (a b : Fin 512) :
    (xs (ix2 a b) : EReal) + ∑ k : Fin 512, (x1 (ix2 a k) : EReal) * (FloatOps.sitofp (F := Ideal) .f32 (BitVec.setWidth 32
        (IntOp.cmpi .eq (x0 (ix2 k 0)) (IntOp.addi (Scalar.muli (BitVec.ofNat 32 n) 512#32) (BitVec.ofNat 32 b.val)))) : EReal)
      = (xs (ix2 a b) : EReal) + ∑ k : Fin 512, if x0 (ix2 k 0) = BitVec.ofNat 32 (n * 512 + b.val) then (x1 (ix2 a k) : EReal) else 0 := by
  congr 1
  refine Finset.sum_congr rfl fun k _ => ?_
  rw [sitofp_eq_bit, show IntOp.addi (Scalar.muli (BitVec.ofNat 32 n) 512#32) (BitVec.ofNat 32 b.val) = BitVec.ofNat 32 (n * 512 + b.val) from by
    rw [BitVec.ofNat_add, BitVec.ofNat_mul]; rfl, mul_ite, mul_one, mul_zero]

open Classical in
/-- The two largest of each four consecutive entries of a row stay, the others become zero. -/
theorem k2_pay3_at (x : Vec Ideal S512x512 .f32) (a b : Fin 512) :  k2_pay3 x k2_pay5
      (k2_pay17 (k2_pay4 x) k2_pay5 (k2_pay7 x) (k2_pay8 x)
        (k2_pay9 x) (k2_pay10 x) (k2_pay11 x) k2_pay12
        (k2_pay14 x) (k2_pay15 x) k2_pay16)
      (k2_pay19 (k2_pay4 x) k2_pay5 (k2_pay6 x) (k2_pay7 x)
        (k2_pay8 x) (k2_pay9 x))
      (k2_pay20 (k2_pay4 x) k2_pay5 (k2_pay6 x) (k2_pay7 x)
        (k2_pay8 x) (k2_pay9 x)) (ix2 a b)
    = if Keep (fun k : Fin 4 => (FloatOps.absf (F := Ideal) (φ := .f32) (x (ix2 a ⟨4 * (b.val / 4) + k.val, by omega⟩)) : EReal)) ⟨b.val % 4, Nat.mod_lt _ (by decide)⟩
      then x (ix2 a b) else 0 := by
  pointwise [k2_pay3, k2_pay4, k2_pay6, k2_pay7, k2_pay8, k2_pay9, k2_pay10, k2_pay11, k2_pay12, k2_pay13, k2_pay14, k2_pay15, k2_pay16, k2_pay17, k2_pay18, k2_pay19, k2_pay20]
  have hc : b.val % 4 < 4 := Nat.mod_lt _ (by decide)
  simp only [k2_pay5_at, pick4 _ hc, after4 _ hc 0 (by decide), after4 _ hc 1 (by decide), after4 _ hc 2 (by decide), after4 _ hc 3 (by decide), bits_ori, count4]
  have idx : ∀ (m : ℕ) (hm : m < 512) (n : ℕ) (hn : n < 512), m = n →
      (FloatOps.absf (F := Ideal) (φ := .f32) (x (ix2 a ⟨m, hm⟩)) : EReal) = FloatOps.absf (F := Ideal) (φ := .f32) (x (ix2 a ⟨n, hn⟩)) := by
    rintro m hm n hn rfl; rfl
  have hb := b.isLt
  have h0 : (if b.val % 4 = 0 then FloatOps.absf (F := Ideal) (φ := .f32) (x (ix2 a ⟨(b.val + 512) % 512, by omega⟩))
      else if b.val % 4 = 1 then FloatOps.absf (F := Ideal) (φ := .f32) (x (ix2 a ⟨(b.val + 512 - 1) % 512, by omega⟩))
      else if b.val % 4 = 2 then FloatOps.absf (F := Ideal) (φ := .f32) (x (ix2 a ⟨(b.val + 512 - 2) % 512, by omega⟩))
      else FloatOps.absf (F := Ideal) (φ := .f32) (x (ix2 a ⟨(b.val + 512 - 3) % 512, by omega⟩)))
      = FloatOps.absf (F := Ideal) (φ := .f32) (x (ix2 a ⟨4 * (b.val / 4) + (0 : Fin 4).val, by omega⟩)) := by
    split_ifs <;> exact idx _ _ _ _ (by simp only [Fin.isValue, Fin.coe_ofNat_eq_mod]; omega)
  have h1 : (if b.val % 4 = 0 then FloatOps.absf (F := Ideal) (φ := .f32) (x (ix2 a ⟨(b.val + 512 - 511) % 512, by omega⟩))
      else if b.val % 4 = 1 then FloatOps.absf (F := Ideal) (φ := .f32) (x (ix2 a ⟨(b.val + 512) % 512, by omega⟩))
      else if b.val % 4 = 2 then FloatOps.absf (F := Ideal) (φ := .f32) (x (ix2 a ⟨(b.val + 512 - 1) % 512, by omega⟩))
      else FloatOps.absf (F := Ideal) (φ := .f32) (x (ix2 a ⟨(b.val + 512 - 2) % 512, by omega⟩)))
      = FloatOps.absf (F := Ideal) (φ := .f32) (x (ix2 a ⟨4 * (b.val / 4) + (1 : Fin 4).val, by simp; omega⟩)) := by
    split_ifs <;> exact idx _ _ _ _ (by simp only [Fin.isValue, Fin.coe_ofNat_eq_mod]; omega)
  have h2 : (if b.val % 4 = 0 then FloatOps.absf (F := Ideal) (φ := .f32) (x (ix2 a ⟨(b.val + 512 - 510) % 512, by omega⟩))
      else if b.val % 4 = 1 then FloatOps.absf (F := Ideal) (φ := .f32) (x (ix2 a ⟨(b.val + 512 - 511) % 512, by omega⟩))
      else if b.val % 4 = 2 then FloatOps.absf (F := Ideal) (φ := .f32) (x (ix2 a ⟨(b.val + 512) % 512, by omega⟩))
      else FloatOps.absf (F := Ideal) (φ := .f32) (x (ix2 a ⟨(b.val + 512 - 1) % 512, by omega⟩)))
      = FloatOps.absf (F := Ideal) (φ := .f32) (x (ix2 a ⟨4 * (b.val / 4) + (2 : Fin 4).val, by simp; omega⟩)) := by
    split_ifs <;> exact idx _ _ _ _ (by simp only [Fin.isValue, Fin.coe_ofNat_eq_mod]; omega)
  have h3 : (if b.val % 4 = 0 then FloatOps.absf (F := Ideal) (φ := .f32) (x (ix2 a ⟨(b.val + 512 - 509) % 512, by omega⟩))
      else if b.val % 4 = 1 then FloatOps.absf (F := Ideal) (φ := .f32) (x (ix2 a ⟨(b.val + 512 - 510) % 512, by omega⟩))
      else if b.val % 4 = 2 then FloatOps.absf (F := Ideal) (φ := .f32) (x (ix2 a ⟨(b.val + 512 - 511) % 512, by omega⟩))
      else FloatOps.absf (F := Ideal) (φ := .f32) (x (ix2 a ⟨(b.val + 512) % 512, by omega⟩)))
      = FloatOps.absf (F := Ideal) (φ := .f32) (x (ix2 a ⟨4 * (b.val / 4) + (3 : Fin 4).val, by simp; omega⟩)) := by
    split_ifs <;> exact idx _ _ _ _ (by simp only [Fin.isValue, Fin.coe_ofNat_eq_mod]; omega)
  have hm : (FloatOps.absf (F := Ideal) (φ := .f32) (x (ix2 a b)) : EReal)
      = FloatOps.absf (F := Ideal) (φ := .f32) (x (ix2 a ⟨4 * (b.val / 4) + b.val % 4, by omega⟩)) := idx _ _ _ _ (by omega)
  rw [h0, h1, h2, h3, hm]
  refine if_congr ?_ rfl rfl
  convert (keep_count _ _).symm <;> rfl

/-- One tile of the product with the selection matrix: each entry adds the entries of the tile's row whose destination is this column. -/
theorem k2_pay2_at (i : grid2.Coords) (x0 : Vec Ideal S512x1 .i32) (xs x1 : Vec Ideal S512x512 .f32) (a b : Fin 512) :
    k2_pay2 i x0 xs x1 (ix2 a b)
      = (xs (ix2 a b) : EReal) + ∑ k : Fin 512, if x0 (ix2 k 0) = BitVec.ofNat 32 ((i 1).val * 512 + b.val) then (x1 (ix2 a k) : EReal) else 0 := by
  pointwise [k2_pay2]
  exact gather_tail (x0 := x0) _ _ _ a b

/-- A running selection through one more block of 512 sources: what is kept so far is the selected entry if its place is
    before the block, and the block adds it if its place is in the block. -/
theorem gather_step {M : Type} [AddCommMonoid M] {C : ℕ} (w : Fin C → M) (d : Fin C → BitVec 32) (q : Fin C) (v : BitVec 32) (hd : ∀ i, d i = v ↔ i = q)
    (n : ℕ) (hn : (n + 1) * 512 ≤ C) :
    (if q.val < n * 512 then w q else 0)
        + ∑ k : Fin 512, (if d ⟨n * 512 + k.val, by omega⟩ = v then w ⟨n * 512 + k.val, by omega⟩ else 0)
      = if q.val < (n + 1) * 512 then w q else 0 := by
  simp only [hd]
  by_cases h : n * 512 ≤ q.val ∧ q.val < (n + 1) * 512
  · rw [if_neg (by omega), if_pos h.2, zero_add, Finset.sum_eq_single ⟨q.val - n * 512, by omega⟩]
    · have e : (⟨n * 512 + (q.val - n * 512), by omega⟩ : Fin C) = q := Fin.ext (by simp only; omega)
      rw [if_pos e, e]
    · intro b _ hb
      rw [if_neg]
      intro hq
      exact hb (Fin.ext (by have := congrArg Fin.val hq; simp only at this ⊢; omega))
    · intro hh; exact absurd (Finset.mem_univ _) hh
  · rw [Finset.sum_eq_zero, add_zero]
    · by_cases h2 : q.val < n * 512
      · rw [if_pos h2, if_pos (by omega)]
      · rw [if_neg h2, if_neg (by omega)]
    · intro b _
      rw [if_neg]
      intro hq
      have := congrArg Fin.val hq
      simp only at this
      omega

/-- The result a selection `q` of columns and the two-of-four rule leave of a row. -/
def kept {C : ℕ} (hC : C % 4 = 0) (w : Fin C → EReal) (q : Fin C → Fin C) (p : Fin C) : EReal :=
  open Classical in
  if Keep (fun k : Fin 4 => (FloatOps.absf (F := Ideal) (φ := .f32) (w (q ⟨4 * (p.val / 4) + k.val, by omega⟩)) : EReal))
      ⟨p.val % 4, Nat.mod_lt _ (by decide)⟩
  then w (q p) else 0

/-- The rule on one tile whose entries are the selected columns' is the rule on the array. -/
theorem kept_of_tile {C : ℕ} (hC : C % 4 = 0) (w : Fin C → EReal) (q : Fin C → Fin C) (X : Vec Ideal S512x512 .f32)
    (n : ℕ) (a b : Fin 512) (p : Fin C) (hp : p.val = n * 512 + b.val)
    (hX : ∀ (b' : Fin 512) (p' : Fin C), p'.val = n * 512 + b'.val → X (ix2 a b') = w (q p')) :
    (open Classical in if Keep (fun k : Fin 4 => (FloatOps.absf (F := Ideal) (φ := .f32) (X (ix2 a ⟨4 * (b.val / 4) + k.val, by omega⟩)) : EReal)) ⟨b.val % 4, Nat.mod_lt _ (by decide)⟩
      then (X (ix2 a b) : EReal) else 0) = kept hC w q p := by
  unfold kept
  have h1 : ∀ k : Fin 4, X (ix2 a ⟨4 * (b.val / 4) + k.val, by omega⟩) = w (q ⟨4 * (p.val / 4) + k.val, by omega⟩) :=
    fun k => hX _ _ (by simp only; omega)
  have h2 : (⟨b.val % 4, Nat.mod_lt _ (by decide)⟩ : Fin 4) = ⟨p.val % 4, Nat.mod_lt _ (by decide)⟩ := Fin.ext (by simp only; omega)
  have hA : (fun k : Fin 4 => (FloatOps.absf (F := Ideal) (φ := .f32) (X (ix2 a ⟨4 * (b.val / 4) + k.val, by omega⟩)) : EReal))
      = fun k : Fin 4 => (FloatOps.absf (F := Ideal) (φ := .f32) (w (q ⟨4 * (p.val / 4) + k.val, by omega⟩)) : EReal) :=
    funext fun k => congrArg (FloatOps.absf (F := Ideal) (φ := .f32)) (h1 k)
  rw [hA, h2, hX b p hp]

end Cert.KernelIdeal.Run

end
-- ==== Proof.Pay1.lean ====
module

public import proofs.«01_k».proof.Proof.Pay2

@[expose] public section

noncomputable section

namespace Cert.KernelIdeal.Run

open Cert.KernelIdeal Cert.KernelIdeal.Gen Cert.Spec
open Idealize.ShloMosaic Idealize.ShloMosaic.TcCoe Idealize.ShloMosaic.Tactic

theorem fold_addi_ofNat {ι : Type} (s : Finset ι) (f : ι → ℕ) :
    s.fold IntOp.addi 0#32 (fun k => BitVec.ofNat 32 (f k)) = BitVec.ofNat 32 (∑ k ∈ s, f k) := by
  classical
  induction s using Finset.induction_on with
  | empty => rfl
  | insert a s ha ih => rw [Finset.fold_insert ha, ih, Finset.sum_insert ha, BitVec.ofNat_add]; rfl

/-- A word of a small number read as a signed number. -/
theorem slt_ofNat {x y : ℕ} (hx : x < 2 ^ 31) (hy : y < 2 ^ 31) :
    IntOp.cmpi .slt (BitVec.ofNat 32 x) (BitVec.ofNat 32 y) = BitVec.ofBool (decide (x < y)) := by
  have hsx : (BitVec.ofNat 32 x).toInt = x := by
    rw [BitVec.toInt_eq_toNat_of_lt (by rw [BitVec.toNat_ofNat]; omega), BitVec.toNat_ofNat, Nat.mod_eq_of_lt (by omega)]
  have hsy : (BitVec.ofNat 32 y).toInt = y := by
    rw [BitVec.toInt_eq_toNat_of_lt (by rw [BitVec.toNat_ofNat]; omega), BitVec.toNat_ofNat, Nat.mod_eq_of_lt (by omega)]
  show BitVec.ofBool ((BitVec.ofNat 32 x).slt (BitVec.ofNat 32 y)) = _
  rw [BitVec.slt_eq_decide, hsx, hsy]; simp

/-- The coordinate a step's iota stands for. -/
theorem coord_word (i a : ℕ) : IntOp.addi (Scalar.muli (BitVec.ofNat 32 i) 512#32) (BitVec.ofNat 32 a) = BitVec.ofNat 32 (i * 512 + a) := by
  rw [BitVec.ofNat_add, BitVec.ofNat_mul]; rfl

open Classical in
/-- The bits a row counts add up to the rank of its key. -/
theorem rank_word {n : ℕ} (hn : n < 2 ^ 31) (K : Fin n → EReal) (I : Fin n) (y : EReal) (z : Fin n → EReal) (u : ℕ)
    (hy : y = K I) (hz : ∀ j, z j = K j) (hu : u = I.val) :
    Finset.fold IntOp.addi (0#32) (fun x : Fin n =>
      BitVec.setWidth 32 (IntOp.ori (BitVec.ofBool (decide (y < z x)))
        (IntOp.andi (BitVec.ofBool (decide (z x = y))) (IntOp.cmpi CmpIPredicate.slt (BitVec.ofNat 32 x.val) (BitVec.ofNat 32 u))))) Finset.univ
      = BitVec.ofNat 32 (rk K I) := by
  rw [rk_eq_sum, ← fold_addi_ofNat]
  refine congrArg (fun f => Finset.fold IntOp.addi (0#32) f Finset.univ) (funext fun x => ?_)
  rw [slt_ofNat (by have := x.isLt; omega) (by have := I.isLt; omega), hy, hz, hu]
  by_cases h1 : K I < K x <;> by_cases h2 : K x = K I <;> by_cases h3 : x.val < I.val <;>
    simp [Bef, h1, h2, h3, IntOp.ori, IntOp.andi, Fin.lt_def]

/-- The place of a rank, as the words compute it. -/
theorem place_word {n r : ℕ} (hn : n < 2 ^ 30) (hr : r < n) :
    Scalar.select (IntOp.cmpi .slt (BitVec.ofNat 32 r) (BitVec.ofNat 32 (n / 2)))
      (IntOp.subi (IntOp.muli 2#32 (BitVec.ofNat 32 r)) (IntOp.andi (BitVec.ofNat 32 r) 1#32))
      (IntOp.subi (IntOp.addi (IntOp.muli 2#32 (IntOp.subi (BitVec.ofNat 32 (n - 1)) (BitVec.ofNat 32 r))) 2#32) (IntOp.andi (IntOp.subi (BitVec.ofNat 32 (n - 1)) (BitVec.ofNat 32 r)) 1#32))
      = BitVec.ofNat 32 (destOf n r) := by
  have low : ∀ x : ℕ, IntOp.andi (BitVec.ofNat 32 x) 1#32 = BitVec.ofNat 32 (x % 2) := fun x => by
    apply BitVec.eq_of_toNat_eq
    show (BitVec.ofNat 32 x &&& 1#32).toNat = _
    rw [BitVec.toNat_and, BitVec.toNat_ofNat, BitVec.toNat_ofNat]
    show x % 2 ^ 32 &&& 1 = _
    rw [Nat.and_one_is_mod, BitVec.toNat_ofNat]; omega
  have sub : ∀ x y : ℕ, y < 2 ^ 32 → y ≤ x → IntOp.subi (BitVec.ofNat 32 x) (BitVec.ofNat 32 y) = BitVec.ofNat 32 (x - y) := fun x y hy h => by
    show BitVec.ofNat 32 x - BitVec.ofNat 32 y = _
    rw [BitVec.ofNat_sub_ofNat_of_le _ _ hy h]
  have two : ∀ x : ℕ, IntOp.muli 2#32 (BitVec.ofNat 32 x) = BitVec.ofNat 32 (2 * x) := fun x => by rw [BitVec.ofNat_mul]; rfl
  have add : ∀ x : ℕ, IntOp.addi (BitVec.ofNat 32 x) 2#32 = BitVec.ofNat 32 (x + 2) := fun x => by rw [BitVec.ofNat_add]; rfl
  rw [slt_ofNat (by omega) (by omega), sub (n - 1) r (by omega) (by omega), low, low, two, two, add]
  unfold destOf
  by_cases h : r < n / 2
  · rw [if_pos h, decide_eq_true h]; exact sub _ _ (by omega) (by omega)
  · rw [if_neg h, decide_eq_false h]; exact sub _ _ (by omega) (by omega)

/-- A place's word names the column exactly when the key is the one placed there. -/
theorem ofNat_dest_iff {n : ℕ} (hn : n % 4 = 0) (hb : n < 2 ^ 32) (K : Fin n → EReal) (i p : Fin n) :
    BitVec.ofNat 32 (destOf n (rk K i)) = BitVec.ofNat 32 p.val ↔ i = permOf hn K p := by
  rw [← dest_iff hn K i p]
  have h1 := destOf_lt hn (rk_lt K i)
  have h2 := p.isLt
  refine ⟨fun h => ?_, fun h => by rw [h]⟩
  have h3 := congrArg BitVec.toNat h
  rwa [BitVec.toNat_ofNat, BitVec.toNat_ofNat, Nat.mod_eq_of_lt (by omega), Nat.mod_eq_of_lt (by omega)] at h3

theorem k1_pay4_at (i : grid1.Coords) (x0 : Vec Ideal S512x1 .f32) (x1 : Vec Ideal S1x2048 .f32) (a : Fin 512)
    (K : Fin 2048 → EReal) (I : Fin 2048) (hI : I.val = (i 0).val * 512 + a.val) (h0 : x0 (ix2 a 0) = K I) (h1 : ∀ j, x1 (ix2 0 j) = K j) :
    k1_pay4 i x0 x1 (ix2 a 0) = BitVec.ofNat 32 (destOf 2048 (rk K I)) := by
  refine Eq.trans ?_ (place_word (by decide) (rk_lt K I))
  rw [← rank_word (by decide) K I (x0 (ix2 a 0)) (fun j => x1 (ix2 0 j)) _ h0 h1 hI.symm, ← coord_word]
  pointwise [k1_pay4, k1_pay3]

theorem k4_pay4_at (i : grid4.Coords) (x0 : Vec Ideal S512x1 .f32) (x1 : Vec Ideal S1x8192 .f32) (a : Fin 512)
    (K : Fin 8192 → EReal) (I : Fin 8192) (hI : I.val = (i 0).val * 512 + a.val) (h0 : x0 (ix2 a 0) = K I) (h1 : ∀ j, x1 (ix2 0 j) = K j) :
    k4_pay4 i x0 x1 (ix2 a 0) = BitVec.ofNat 32 (destOf 8192 (rk K I)) := by
  refine Eq.trans ?_ (place_word (by decide) (rk_lt K I))
  rw [← rank_word (by decide) K I (x0 (ix2 a 0)) (fun j => x1 (ix2 0 j)) _ h0 h1 hI.symm, ← coord_word]
  pointwise [k4_pay4, k4_pay3]

/-- One row of a permutation's sum: the coordinates whose place is the column's. -/
theorem perm_tail (z : BitVec 32) (d : Fin 512 → BitVec 32) (p i : ℕ) :
    IntOp.addi z (Finset.fold IntOp.addi (0#32) (fun x : Fin 512 =>
      IntOp.muli (BitVec.setWidth 32 (IntOp.cmpi CmpIPredicate.eq (d x) (BitVec.ofNat 32 p)))
        (IntOp.addi (Scalar.muli (BitVec.ofNat 32 i) 512#32) (BitVec.ofNat 32 x.val))) Finset.univ)
      = z + BitVec.ofNat 32 (∑ x : Fin 512, if d x = BitVec.ofNat 32 p then i * 512 + x.val else 0) := by
  rw [← fold_addi_ofNat]
  show z + _ = z + _
  refine congrArg (fun f => z + Finset.fold IntOp.addi (0#32) f Finset.univ) (funext fun x => ?_)
  rw [coord_word]
  by_cases h : d x = BitVec.ofNat 32 p
  · rw [if_pos h, h, IntOp.cmpi_eq_self]; show 1#32 * _ = _; rw [BitVec.one_mul]
  · rw [if_neg h]
    have : IntOp.cmpi CmpIPredicate.eq (d x) (BitVec.ofNat 32 p) = 0#1 := by
      show BitVec.ofBool (d x == BitVec.ofNat 32 p) = 0#1
      rw [beq_eq_false_iff_ne.mpr h]; rfl
    rw [this]; show 0#32 * _ = _; rw [BitVec.zero_mul]

theorem k1_pay1_at (i : grid1.Coords) (d : IVec S512x1 32) (x : Vec Ideal S1x2048 .i32) (p : Fin 2048) :
    k1_pay1 (F := Ideal) (k1_pay3 i) (iota .tc S512x2048 32 [1] iota_S512x2048_d1_w32) d x (ix2 0 p)
      = x (ix2 0 p) + BitVec.ofNat 32 (∑ k : Fin 512, if d (ix2 k 0) = BitVec.ofNat 32 p.val then (i 0).val * 512 + k.val else 0) := by
  refine Eq.trans ?_ (perm_tail (x (ix2 0 p)) (fun k => d (ix2 k 0)) p.val (i 0).val)
  pointwise [k1_pay1, k1_pay3]

theorem k4_pay1_at (i : grid4.Coords) (d : IVec S512x1 32) (x : Vec Ideal S1x8192 .i32) (p : Fin 8192) :
    k4_pay1 (F := Ideal) (k4_pay3 i) (iota .tc S512x8192 32 [1] iota_S512x8192_d1_w32) d x (ix2 0 p)
      = x (ix2 0 p) + BitVec.ofNat 32 (∑ k : Fin 512, if d (ix2 k 0) = BitVec.ofNat 32 p.val then (i 0).val * 512 + k.val else 0) := by
  refine Eq.trans ?_ (perm_tail (x (ix2 0 p)) (fun k => d (ix2 k 0)) p.val (i 0).val)
  pointwise [k4_pay1, k4_pay3]

end Cert.KernelIdeal.Run

end
-- ==== Proof.Pay0.lean ====
module

public import proofs.«01_k».proof.Proof.Pay1
public import Idealize.ShloMosaic.Lib.Pipeline.ValueKit

@[expose] public section

noncomputable section

namespace Cert.KernelIdeal.Run

open Cert.KernelIdeal Cert.KernelIdeal.Gen Cert.Spec
open Idealize.ShloMosaic Idealize.ShloMosaic.TcCoe Idealize.ShloMosaic.Tactic

/-- A start value with `n` terms added one after the other. -/
def addUp (z : EReal) : (n : ℕ) → (Fin n → EReal) → EReal
  | 0, _ => z
  | n + 1, f => addUp z n (fun k => f k.castSucc) + f (Fin.last n)

theorem addUp_eq (z : EReal) : ∀ (n : ℕ) (f : Fin n → EReal), addUp z n f = z + ∑ k, f k
  | 0, f => by simp [addUp]
  | n + 1, f => by rw [addUp, addUp_eq z n, Fin.sum_univ_castSucc, add_assoc]

/-- Eight values added in the tree order of the last step are their sum. -/
theorem tree8 (f : Fin 8 → EReal) : ((f 0 + f 4) + (f 2 + f 6)) + ((f 1 + f 5) + (f 3 + f 7)) = ∑ a, f a := by
  rw [Fin.sum_univ_eight]; ac_rfl

/-- A function on the rows, zero past the last. -/
def onNat {R : ℕ} (g : Fin R → EReal) (r : ℕ) : EReal := if h : r < R then g ⟨r, h⟩ else 0

theorem onNat_of {R : ℕ} (g : Fin R → EReal) (r : ℕ) (i : Fin R) (h : r = i.val) : onNat g r = g i := by
  subst h; exact dif_pos i.isLt

/-- Rows taken by residue of eight, step by step, are all the rows. -/
theorem rows_total {R : ℕ} (g : Fin R → EReal) (N n : ℕ) (hR : R = N * (8 * n)) :
    ∑ a : Fin 8, ∑ s ∈ Finset.range N, ∑ k : Fin n, onNat g (s * (8 * n) + (8 * k.val + a.val)) = ∑ r, g r := by
  rw [Finset.sum_comm]
  have h1 : ∀ s, ∑ a : Fin 8, ∑ k : Fin n, onNat g (s * (8 * n) + (8 * k.val + a.val)) = ∑ m ∈ Finset.range (8 * n), onNat g (s * (8 * n) + m) := fun s => by
    rw [Finset.sum_comm, Nat.mul_comm 8 n, ← Fin.sum_univ_eq_sum_range (fun m => onNat g (s * (n * 8) + m)),
      ← Fin.sum_univ_univ_mul_add n 8 (fun m => onNat g (s * (n * 8) + m))]
    simp only [Nat.mul_comm 8]
  rw [Finset.sum_congr rfl fun s _ => h1 s, Finset.sum_range_range_mul_add N (8 * n), ← hR, ← Fin.sum_univ_eq_sum_range (onNat g)]
  exact Finset.sum_congr rfl fun r _ => onNat_of g _ r rfl

end Cert.KernelIdeal.Run

end
-- ==== Proof.V0.lean ====
module

public import proofs.«01_k».proof.Proof.R0
public import Idealize.ShloMosaic.Lib.Pipeline.ValueKit
public import proofs.«01_k».proof.Proof.Pay0
public import Idealize.ShloMosaic.Lib.Tactic

@[expose] public section

noncomputable section

namespace Cert.KernelIdeal.Run

open Cert.KernelIdeal Cert.KernelIdeal.Gen Cert.Spec
open Idealize.ShloMosaic Idealize.ShloMosaic.TcCoe Idealize.ShloMosaic.Tactic Idealize.SL.Sem
open Idealize.ShloMosaic.Pipeline (Dat)

section Open

variable (c : Dev nD) (i : grid0.Coords) (arg1 : Memref sig .tc .vmem S1024x2048 .f32) (harg1 : arg1.IsWhole) (arg2 : Memref sig .tc .vmem S1024x2048 .f32) (harg2 : arg2.IsWhole) (arg3 : Memref sig .tc .vmem S8x2048 .f32) (harg3 : arg3.IsWhole)
  (x0 x1 : Vec Ideal S1024x2048 .f32) (xo2 : Vec Ideal S8x2048 .f32)

/-- The sum of a block's rows of one residue, over what the row held. -/
def rows0 (z : EReal) (a : Fin 8) (b : Fin 2048) : EReal := addUp z 128 fun k => k0_pay3 x0 x1 (ix2 ⟨8 * k.val + a.val, by omega⟩ b)

theorem out0_A_at (hc0 : cond0_0 i) (hc1 : ¬cond0_1 i) (a : Fin 8) (b : Fin 2048) :
    out0_A_2 c i arg1 harg1 arg2 harg2 arg3 harg3 hc0 hc1 x0 x1 (ix2 a b) = rows0 x0 x1 (k0_pay2 (F := Ideal) (ix2 a b)) a b := by
  unfold rows0
  frame_out
  pointwise [k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146, k0_pay147, k0_pay148,
    k0_pay149, k0_pay150, k0_pay151, k0_pay152]
  rw [show (⟨a.val, by omega⟩ : Fin 1024) = ⟨8 * 0 + a.val, by omega⟩ from Fin.ext (by simp)]
  rfl

theorem out0_B_at (hc0 : ¬cond0_0 i) (hc1 : ¬cond0_1 i) (a : Fin 8) (b : Fin 2048) :
    out0_B_2 c i arg1 harg1 arg2 harg2 arg3 harg3 hc0 hc1 x0 x1 xo2 (ix2 a b) = rows0 x0 x1 (xo2 (ix2 a b)) a b := by
  unfold rows0
  frame_out
  pointwise [k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146, k0_pay147, k0_pay148,
    k0_pay149, k0_pay150, k0_pay151, k0_pay152]
  rw [show (⟨a.val, by omega⟩ : Fin 1024) = ⟨8 * 0 + a.val, by omega⟩ from Fin.ext (by simp)]
  rfl

/-- The last step's row: the eight rows added. -/
theorem fin0_at (x : Vec Ideal S8x2048 .f32) (b : Fin 2048) (f : Fin 8 → EReal) (h : ∀ a, x (ix2 a b) = f a) : k0_pay1 x (ix2 0 b) = ∑ a, f a := by
  rw [← tree8]
  simp only [← h]
  pointwise [k0_pay1]

theorem out0_C_at (hc0 : ¬cond0_0 i) (hc1 : cond0_1 i) (b : Fin 2048) :
    out0_C_2 c i arg1 harg1 arg2 harg2 arg3 harg3 hc0 hc1 x0 x1 xo2 (ix2 0 b) = ∑ a, rows0 x0 x1 (xo2 (ix2 a b)) a b := by
  have e : (ix2 0 b : S8x2048.Idx) = (Rect.unit (s := S8x2048) ![0, 0] S1x2048.size inb_S8x2048_S1x2048_0_0).emb (ix2 0 b) := by
    funext a; fin_cases a <;> exact Fin.ext (by simp)
  refine (congrArg _ e).trans ?_
  frame_out
  refine (View.canon_cons_emb _ _ _ _).trans (fin0_at _ b _ fun a => ?_)
  unfold rows0
  pointwise [k0_pay4, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87,
    k0_pay88, k0_pay89, k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136,
    k0_pay137, k0_pay138, k0_pay139, k0_pay140, k0_pay141, k0_pay142, k0_pay143, k0_pay144, k0_pay145, k0_pay146, k0_pay147, k0_pay148,
    k0_pay149, k0_pay150, k0_pay151, k0_pay152]
  rw [show (⟨a.val, by omega⟩ : Fin 1024) = ⟨8 * 0 + a.val, by omega⟩ from Fin.ext (by simp)]
  rfl

end Open

/-! ## The region's result, at the ideal values -/

section Ideal

variable (V : (c : Dev nD) → (b : Ref sig .tc) → Buf (Elt Ideal) ((c : Thread nD τ).loc b))

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![0, 0] := (by decide +kernel : ∀ t : Fin grid0.N, _)

theorem lt0 (t : Fin cfg0.N) : t.val < 8 := lt_of_lt_of_eq t.isLt N_0

/-- The row of the arrays a block's row is at a point. -/
abbrev row0 (t : Fin cfg0.N) (a : Fin 1024) : Fin 8192 := ⟨t.val * 1024 + a.val, by have := lt0 t; omega⟩

theorem iblk0_0_at (c : Dev nD) (t : Fin cfg0.N) (a : Fin 1024) (b : Fin 2048) : iblk0 V c 0 t (ix2 a b) = V c main_arg0 (ix2 (row0 t a) b) := by
  blk_ext! [iblk0, idx0_0 t]

theorem iblk0_1_at (c : Dev nD) (t : Fin cfg0.N) (a : Fin 1024) (b : Fin 2048) : iblk0 V c 1 t (ix2 a b) = V c main_arg1 (ix2 (row0 t a) b) := by
  blk_ext! [iblk0, idx0_1 t]

/-- The square one entry adds to its column's sum. -/
def sq0 (c : Dev nD) (b : Fin 2048) (r : Fin 8192) : EReal :=
  FloatOps.mulf (F := Ideal) (φ := .f32) (FloatOps.mulf (F := Ideal) (φ := .f32) (FloatOps.absf (F := Ideal) (φ := .f32) (V c main_arg0 (ix2 r b))) (V c main_arg1 (ix2 r b)))
    (FloatOps.mulf (F := Ideal) (φ := .f32) (FloatOps.absf (F := Ideal) (φ := .f32) (V c main_arg0 (ix2 r b))) (V c main_arg1 (ix2 r b)))

theorem sq0_at (c : Dev nD) (t : Fin cfg0.N) (a : Fin 1024) (b : Fin 2048) :
    k0_pay3 (iblk0 V c 0 t) (iblk0 V c 1 t) (ix2 a b) = sq0 V c b (row0 t a) := by
  unfold sq0
  rw [← iblk0_0_at V c t a b, ← iblk0_1_at V c t a b]
  pointwise [k0_pay3]

theorem rows0_at (c : Dev nD) (t : Fin cfg0.N) (z : EReal) (a : Fin 8) (b : Fin 2048) :
    rows0 (iblk0 V c 0 t) (iblk0 V c 1 t) z a b = z + ∑ k : Fin 128, onNat (sq0 V c b) (t.val * (8 * 128) + (8 * k.val + a.val)) := by
  unfold rows0
  rw [addUp_eq]
  refine congrArg (z + ·) (Finset.sum_congr rfl fun k _ => ?_)
  rw [sq0_at, onNat_of _ _ (row0 t ⟨8 * k.val + a.val, by omega⟩) rfl]

/-- The eight running rows after each point but the last: the squares so far, by residue. -/
theorem run0 (c : Dev nD) : ∀ (n : ℕ) (hn : n < cfg0.N), n % 8 ≠ 7 → ∀ (a : Fin 8) (b : Fin 2048),
    outsAt0 V c n hn (ix2 a b) = ∑ s ∈ Finset.range (n + 1), ∑ k : Fin 128, onNat (sq0 V c b) (s * (8 * 128) + (8 * k.val + a.val)) := by
  intro n
  induction n with
  | zero =>
    intro hn h7 a b
    rw [show outsAt0 V c 0 hn = _ from outsAt0_A V c ⟨0, hn⟩ rfl h7, out0_A_at, rows0_at, Finset.sum_range_one]
    rw [show k0_pay2 (F := Ideal) (ix2 a b) = (0 : EReal) by pointwise [k0_pay2], zero_add]
  | succ n ih =>
    intro hn h7 a b
    have hl := lt0 ⟨n + 1, hn⟩
    simp only at hl
    rw [show outsAt0 V c (n + 1) hn = _ from outsAt0_B V c ⟨n + 1, hn⟩ (by simp only; omega) h7, out0_B_at, rows0_at, Finset.sum_range_succ]
    exact congrArg (· + _) (ih (Nat.lt_of_succ_lt hn) (by omega) a b)

/-- The first row after the last point: the column's sum of squares. -/
theorem last0 (c : Dev nD) (t : Fin cfg0.N) (h7 : t.val % 8 = 7) (b : Fin 2048) :
    outsAt0 V c t.val t.isLt (ix2 0 b) = ∑ r, sq0 V c b r := by
  have hl := lt0 t
  rw [outsAt0_C V c t (by omega) h7, out0_C_at, ← rows_total (sq0 V c b) 8 128 (by decide)]
  refine Finset.sum_congr rfl fun a _ => ?_
  rw [rows0_at, run0 V c (t.val - 1) _ (by omega) a b]
  have e : t.val = 7 := by omega
  simp only [e]
  exact (Finset.sum_range_succ (fun s => ∑ k : Fin 128, onNat (sq0 V c b) (s * (8 * 128) + (8 * k.val + a.val))) 7).symm

theorem seven0 : 7 < cfg0.N := lt_of_lt_of_eq (by decide) N_0.symm

/-- THE SUMS the region leaves in its first row. -/
theorem arr0 (c : Dev nD) (b : Fin 2048) : (dat0 V c).arrAt 2 cfg0.N (ix2 0 b) = ∑ r, sq0 V c b r := by
  have h := (dat0 V c).arrAt_eq_of_covers 2 (fun i : S8x2048.Idx => outsAt0 V c 7 seven0 i) (by decide +kernel) fun t hf y => by
    have h7 : t.val % 8 = 7 := (flush0_2 t).mp hf
    have hl := lt0 t
    have ho : ∀ (n : ℕ) (hn : n < cfg0.N), n = 7 → outsAt0 V c n hn = outsAt0 V c 7 seven0 := by rintro n hn rfl; rfl
    blk_simp
    rw [after0_2, ho t.val t.isLt (by omega)]
    obtain ⟨a, b, rfl⟩ : ∃ (a : Fin 8) (b : Fin 2048), y = ix2 a b := ⟨y 0, y 1, eq_ix2 y⟩
    refine congrArg _ ?_
    funext e; fin_cases e <;> exact Fin.ext (by blk_simp [idx0_2 t])
  rw [h]
  exact last0 V c ⟨7, seven0⟩ rfl b

end Ideal

end Cert.KernelIdeal.Run

end
-- ==== Proof.V2.lean ====
module

public import proofs.«01_k».proof.Proof.R2
public import Idealize.ShloMosaic.Lib.Pipeline.ValueKit
public import proofs.«01_k».proof.Proof.Pay2
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

theorem sout2_A (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x1 .i32) (x1 : Vec F S512x512 .f32) : sout2_A_0 c i arg3 harg3 arg4 harg4 arg5 harg5 arg6 harg6 hc0 hc1 x0 x1 = k2_pay2 i x0 k2_pay1 x1 := by
  unfold sout2_A_0
  rw [View.read_writes_eq_canon _ _ _ (scover2_A_0 c i arg3 harg3 arg4 harg4 arg5 harg5 arg6 harg6 hc0 hc1 x0 x1)]
  unfold kernelRun2_A
  dsimp only
  sl_unfold_words
  rw [View.canon_cons_unit_zero (S := S512x512) hz]
  simp only [View.readCov_unit_zero (S := S512x512) _ hz, View.readAt_eq_ld, harg3.read_unread, harg4.read_unread, View.ld_unit_zero (S := S512x512) hz, View.ld_unit_zero (S := S512x1) hz]

theorem sout2_B (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x1 .i32) (x1 xs0 : Vec F S512x512 .f32) : sout2_B_0 c i arg3 harg3 arg4 harg4 arg5 harg5 arg6 harg6 hc0 hc1 x0 x1 xs0 = k2_pay2 i x0 xs0 x1 := by
  unfold sout2_B_0
  rw [View.read_writes_eq_canon _ _ _ (scover2_B_0 c i arg3 harg3 arg4 harg4 arg5 harg5 arg6 harg6 hc0 hc1 x0 x1 xs0)]
  unfold kernelRun2_B
  dsimp only
  sl_unfold_words
  rw [View.canon_unit_zero hz]
  simp only [View.readAt_eq_ld, harg3.read_unread, harg4.read_unread, harg6.read_unread, View.ld_unit_zero (S := S512x512) hz, View.ld_unit_zero (S := S512x1) hz]

/-- The two-of-four rule on one tile. -/
def keep2 (x : Vec F S512x512 .f32) : Vec F S512x512 .f32 := k2_pay3 x k2_pay5
  (k2_pay17 (k2_pay4 x) k2_pay5 (k2_pay7 x) (k2_pay8 x) (k2_pay9 x) (k2_pay10 x) (k2_pay11 x) k2_pay12
    (k2_pay14 x) (k2_pay15 x) k2_pay16)
  (k2_pay19 (k2_pay4 x) k2_pay5 (k2_pay6 x) (k2_pay7 x) (k2_pay8 x) (k2_pay9 x))
  (k2_pay20 (k2_pay4 x) k2_pay5 (k2_pay6 x) (k2_pay7 x) (k2_pay8 x) (k2_pay9 x))

theorem out2_C (c : Dev nD) (i : grid2.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x1 .i32) (x1 xs0 : Vec F S512x512 .f32) : out2_C_2 c i arg3 harg3 arg4 harg4 arg5 harg5 arg6 harg6 hc0 hc1 x0 x1 xs0 = keep2 (k2_pay2 i x0 xs0 x1) := by
  unfold out2_C_2
  rw [View.read_writes_eq_canon _ _ _ (cover2_C_2 c i arg3 harg3 arg4 harg4 arg5 harg5 arg6 harg6 hc0 hc1 x0 x1 xs0)]
  unfold kernelRun2_C
  dsimp only
  sl_unfold_words
  rw [View.canon_unit_zero hz]
  simp only [View.readCov_unit_zero (S := S512x512) _ hz, View.readAt_eq_ld, harg3.read_unread, harg4.read_unread, harg6.read_unread, View.ld_unit_zero (S := S512x512) hz, View.ld_unit_zero (S := S512x1) hz]
  rfl

/-! ## The region's result, at the ideal values -/

section Ideal

variable (V : (c : Dev nD) → (b : Ref sig .tc) → Buf (Elt Ideal) ((c : Thread nD τ).loc b))

theorem idx2_0 : ∀ t : Fin cfg2.N, win2_0.index t = ![t.val % 4, 0] := (by decide +kernel : ∀ t : Fin grid2.N, _)
theorem idx2_1 : ∀ t : Fin cfg2.N, win2_1.index t = ![t.val / 16, t.val % 4] := (by decide +kernel : ∀ t : Fin grid2.N, _)
theorem idx2_2 : ∀ t : Fin cfg2.N, win2_2.index t = ![t.val / 16, t.val / 4 % 4] := (by decide +kernel : ∀ t : Fin grid2.N, _)

theorem lt2 (t : Fin cfg2.N) : t.val < 256 := lt_of_lt_of_eq t.isLt N_2

theorem iblk2_0_at (c : Dev nD) (t : Fin cfg2.N) (k : Fin 512) :
    iblk2 V c 0 t (ix2 k 0) = V c main_v6_1 (ix2 ⟨t.val % 4 * 512 + k.val, by omega⟩ 0) := by
  blk_ext! [iblk2, idx2_0 t]

theorem iblk2_1_at (c : Dev nD) (t : Fin cfg2.N) (a k : Fin 512) :
    iblk2 V c 1 t (ix2 a k)
      = V c main_arg0 (ix2 ⟨t.val / 16 * 512 + a.val, by have := lt2 t; omega⟩ ⟨t.val % 4 * 512 + k.val, by omega⟩) := by
  blk_ext! [iblk2, idx2_1 t]

/-- The column of the array a tile's column is at point `t`, and the row. -/
abbrev col2 (t : Fin cfg2.N) (b : Fin 512) : Fin 2048 := ⟨t.val / 4 % 4 * 512 + b.val, by omega⟩
abbrev row2 (t : Fin cfg2.N) (a : Fin 512) : Fin 8192 := ⟨t.val / 16 * 512 + a.val, by have := lt2 t; omega⟩

variable (c : Dev nD) (q : Fin 2048 → Fin 2048)
  (hq : ∀ i p : Fin 2048, V c main_v6_1 (ix2 i 0) = BitVec.ofNat 32 p.val ↔ i = q p)

include hq in
theorem step2 (t : Fin cfg2.N) (xs : Vec Ideal S512x512 .f32) (a b : Fin 512)
    (hx : xs (ix2 a b) = (if (q (col2 t b)).val < t.val % 4 * 512 then V c main_arg0 (ix2 (row2 t a) (q (col2 t b))) else (0 : EReal))) :
    k2_pay2 (grid2.coords t) (iblk2 V c 0 t) xs (iblk2 V c 1 t) (ix2 a b)
      = (if (q (col2 t b)).val < (t.val % 4 + 1) * 512 then V c main_arg0 (ix2 (row2 t a) (q (col2 t b))) else (0 : EReal)) := by
  have e1 : (grid2.coords t 1).val = t.val / 4 % 4 := Pipeline.Grid.coords_val t 1 (by decide) rfl
  rw [k2_pay2_at, hx, e1]
  simp only [iblk2_0_at, iblk2_1_at]
  exact gather_step (M := EReal) (fun i => V c main_arg0 (ix2 (row2 t a) i)) (fun i => V c main_v6_1 (ix2 i 0)) (q (col2 t b)) _
    (fun i => hq i (col2 t b)) (t.val % 4) (by omega)

include hq in
/-- The running tile after each point but a run's last: the columns selected so far. -/
theorem run2 : ∀ (n : ℕ) (hn : n < cfg2.N), n % 4 ≠ 3 → ∀ a b : Fin 512,
    (outsAt2 V c n hn).2 (ix2 a b)
      = (if (q (col2 ⟨n, hn⟩ b)).val < (n % 4 + 1) * 512 then V c main_arg0 (ix2 (row2 ⟨n, hn⟩ a) (q (col2 ⟨n, hn⟩ b))) else (0 : EReal)) := by
  intro n
  induction n with
  | zero =>
    intro hn h3 a b
    rw [show outsAt2 V c 0 hn = _ from outsAt2_A V c ⟨0, hn⟩ rfl h3]
    dsimp only
    rw [sout2_A]
    refine step2 V c q hq ⟨0, hn⟩ _ a b ?_
    rw [if_neg (by simp)]
    pointwise [k2_pay1]
  | succ n ih =>
    intro hn h3 a b
    by_cases h0 : (n + 1) % 4 = 0
    · rw [show outsAt2 V c (n + 1) hn = _ from outsAt2_A V c ⟨n + 1, hn⟩ h0 h3]
      dsimp only
      rw [sout2_A]
      refine step2 V c q hq ⟨n + 1, hn⟩ _ a b ?_
      rw [if_neg (by simp [h0])]
      pointwise [k2_pay1]
    · rw [show outsAt2 V c (n + 1) hn = _ from outsAt2_B V c ⟨n + 1, hn⟩ h0 h3]
      dsimp only
      rw [sout2_B]
      refine step2 V c q hq ⟨n + 1, hn⟩ _ a b ?_
      have e1 : col2 ⟨n, Nat.lt_of_succ_lt hn⟩ b = col2 ⟨n + 1, hn⟩ b := Fin.ext (by simp only; omega)
      have e2 : row2 ⟨n, Nat.lt_of_succ_lt hn⟩ a = row2 ⟨n + 1, hn⟩ a := Fin.ext (by simp only; omega)
      have e3 : (n + 1) % 4 = n % 4 + 1 := by omega
      have := ih (Nat.lt_of_succ_lt hn) (by omega) a b
      rw [e1, e2] at this
      simp only [e3]
      exact this

include hq in
/-- The tile before the rule, at a run's last point: the columns selected. -/
theorem last2 (t : Fin cfg2.N) (h3 : t.val % 4 = 3) (a b : Fin 512) :
    k2_pay2 (grid2.coords t) (iblk2 V c 0 t) (outsAt2 V c (t.val - 1) (Nat.lt_of_le_of_lt (Nat.sub_le _ _) t.isLt)).2 (iblk2 V c 1 t) (ix2 a b)
      = (V c main_arg0 (ix2 (row2 t a) (q (col2 t b))) : EReal) := by
  have h := lt2 t
  have hn : t.val - 1 < cfg2.N := Nat.lt_of_le_of_lt (Nat.sub_le _ _) t.isLt
  have e1 : col2 ⟨t.val - 1, hn⟩ b = col2 t b := Fin.ext (by simp only; omega)
  have e2 : row2 ⟨t.val - 1, hn⟩ a = row2 t a := Fin.ext (by simp only; omega)
  have e3 : t.val % 4 = (t.val - 1) % 4 + 1 := by omega
  rw [step2 V c q hq t _ a b ?_, if_pos (by have := (q (col2 t b)).isLt; omega)]
  have := run2 V c q hq (t.val - 1) hn (by omega) a b
  rw [e1, e2, ← e3] at this
  exact this

include hq in
/-- THE REGION'S RESULT: the columns selected, the two largest of each four kept. -/
theorem arr2 : (dat2 V c).arrAt 2 cfg2.N
    = fun i : S8192x2048.Idx => kept (by decide) (fun j => (V c main_arg0 (ix2 (i 0) j) : EReal)) q (i 1) := by
  refine (dat2 V c).arrAt_eq_of_covers 2 _ (by decide +kernel) fun t hf y => ?_
  have h3 : t.val % 4 = 3 := (flush2_2 t).mp hf
  blk_simp
  rw [after2_2, outsAt2_C V c t (by omega) h3]
  dsimp only
  rw [out2_C]
  obtain ⟨a, b, rfl⟩ : ∃ a b : Fin 512, y = ix2 a b := ⟨y 0, y 1, eq_ix2 y⟩
  have e0 : (((View.whole main_v8).slice (win2_2.rect t)).emb (ix2 a b) 0) = row2 t a := Fin.ext (by blk_simp [idx2_2 t])
  have e1 : (((View.whole main_v8).slice (win2_2.rect t)).emb (ix2 a b) 1) = col2 t b := Fin.ext (by blk_simp [idx2_2 t])
  rw [e0, e1]
  refine (k2_pay3_at _ a b).trans (kept_of_tile _ _ q _ (t.val / 4 % 4) a b (col2 t b) rfl fun b' p' hp' => ?_)
  rw [last2 V c q hq t h3 a b', show p' = col2 t b' from Fin.ext hp']

end Ideal

end Cert.KernelIdeal.Run

end
-- ==== Proof.V1.lean ====
module

public import proofs.«01_k».proof.Proof.R1
public import Idealize.ShloMosaic.Lib.Pipeline.ValueKit
public import proofs.«01_k».proof.Proof.Pay1
public import proofs.«01_k».proof.Proof.V2
public import Idealize.ShloMosaic.Lib.Tactic

@[expose] public section

noncomputable section

namespace Cert.KernelIdeal.Run

open Cert.KernelIdeal Cert.KernelIdeal.Gen Cert.Spec
open Idealize.ShloMosaic Idealize.ShloMosaic.TcCoe Idealize.ShloMosaic.Tactic Idealize.SL.Sem
open Idealize.ShloMosaic.Pipeline (Dat)

variable {F : FTy → Type} [FloatOps F]

section Open

variable (c : Dev nD) (i : grid1.Coords) (arg1 : Memref sig .tc .vmem S512x1 .f32) (harg1 : arg1.IsWhole) (arg2 : Memref sig .tc .vmem S1x2048 .f32) (harg2 : arg2.IsWhole) (arg3 : Memref sig .tc .vmem S1x2048 .i32) (harg3 : arg3.IsWhole) (arg4 : Memref sig .tc .vmem S512x1 .i32) (harg4 : arg4.IsWhole)
  (x0 : Vec F S512x1 .f32) (x1 : Vec F S1x2048 .f32) (xo2 : Vec F S1x2048 .i32)

/-- The permutation's row after a step over the row before. -/
def perm1 (x : Vec F S1x2048 .i32) : Vec F S1x2048 .i32 :=
  k1_pay1 (F := F) (k1_pay3 i) (iota .tc S512x2048 32 [1] iota_S512x2048_d1_w32) (k1_pay4 i x0 x1) x

theorem out1_A2 (hc0 : cond1_0 i) : out1_A_2 c i arg1 harg1 arg2 harg2 arg3 harg3 arg4 harg4 hc0 x0 x1 = perm1 i x0 x1 k1_pay2 := by
  unfold out1_A_2 perm1
  rw [View.read_writes_eq_canon _ _ _ (cover1_A_2 c i arg1 harg1 arg2 harg2 arg3 harg3 arg4 harg4 hc0 x0 x1)]
  unfold kernelRun1_A
  dsimp only
  sl_unfold_words
  rw [View.canon_cons_unit_zero (S := S1x2048) hz]
  simp only [View.readCov_unit_zero (S := S1x2048) _ hz, View.readAt_eq_ld, harg1.read_unread, harg2.read_unread, View.ld_unit_zero (S := S512x1) hz, View.ld_unit_zero (S := S1x2048) hz]

theorem out1_A3 (hc0 : cond1_0 i) : out1_A_3 c i arg1 harg1 arg2 harg2 arg3 harg3 arg4 harg4 hc0 x0 x1 = k1_pay4 i x0 x1 := by
  unfold out1_A_3
  rw [View.read_writes_eq_canon _ _ _ (cover1_A_3 c i arg1 harg1 arg2 harg2 arg3 harg3 arg4 harg4 hc0 x0 x1)]
  unfold kernelRun1_A
  dsimp only
  sl_unfold_words
  rw [View.canon_unit_zero hz]
  simp only [View.readAt_eq_ld, harg1.read_unread, harg2.read_unread, View.ld_unit_zero (S := S512x1) hz, View.ld_unit_zero (S := S1x2048) hz]

theorem out1_B2 (hc0 : ¬cond1_0 i) : out1_B_2 c i arg1 harg1 arg2 harg2 arg3 harg3 arg4 harg4 hc0 x0 x1 xo2 = perm1 i x0 x1 xo2 := by
  unfold out1_B_2
  rw [View.read_writes_eq_canon _ _ _ (cover1_B_2 c i arg1 harg1 arg2 harg2 arg3 harg3 arg4 harg4 hc0 x0 x1 xo2)]
  unfold kernelRun1_B
  dsimp only
  sl_unfold_words
  rw [View.canon_unit_zero hz]
  simp only [View.readAt_eq_ld, harg1.read_unread, harg2.read_unread, harg3.read_unread, View.ld_unit_zero (S := S512x1) hz, View.ld_unit_zero (S := S1x2048) hz]
  rfl

theorem out1_B3 (hc0 : ¬cond1_0 i) : out1_B_3 c i arg1 harg1 arg2 harg2 arg3 harg3 arg4 harg4 hc0 x0 x1 xo2 = k1_pay4 i x0 x1 := by
  unfold out1_B_3
  rw [View.read_writes_eq_canon _ _ _ (cover1_B_3 c i arg1 harg1 arg2 harg2 arg3 harg3 arg4 harg4 hc0 x0 x1 xo2)]
  unfold kernelRun1_B
  dsimp only
  sl_unfold_words
  rw [View.canon_unit_zero hz]
  simp only [View.readAt_eq_ld, harg1.read_unread, harg2.read_unread, View.ld_unit_zero (S := S512x1) hz, View.ld_unit_zero (S := S1x2048) hz]

end Open

/-! ## The region's results, at the ideal values -/

section Ideal

variable (V : (c : Dev nD) → (b : Ref sig .tc) → Buf (Elt Ideal) ((c : Thread nD τ).loc b))

theorem idx1_0 : ∀ t : Fin cfg1.N, win1_0.index t = ![t.val, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![t.val, 0] := (by decide +kernel : ∀ t : Fin grid1.N, _)

theorem lt1 (t : Fin cfg1.N) : t.val < 4 := lt_of_lt_of_eq t.isLt N_1

/-- The key a step's row stands for. -/
abbrev row1 (t : Fin cfg1.N) (a : Fin 512) : Fin 2048 := ⟨t.val * 512 + a.val, by have := lt1 t; omega⟩

theorem iblk1_0_at (c : Dev nD) (t : Fin cfg1.N) (a : Fin 512) : iblk1 V c 0 t (ix2 a 0) = V c main_v4 (ix2 (row1 t a) 0) := by
  blk_ext! [iblk1, idx1_0 t]

theorem iblk1_1_at (c : Dev nD) (t : Fin cfg1.N) (j : Fin 2048) : iblk1 V c 1 t (ix2 0 j) = V c main_v5 (ix2 0 j) := by
  blk_ext! [iblk1, idx1_1 t]

theorem coord1 (t : Fin cfg1.N) : (grid1.coords t 0).val = t.val :=
  (show (grid1.coords t 0).val = t.val / 1 % 4 from Pipeline.Grid.coords_val t 0 (by decide) rfl).trans (by have := lt1 t; omega)

variable (c : Dev nD) (K : Fin 2048 → EReal) (h0 : ∀ i : Fin 2048, V c main_v4 (ix2 i 0) = K i) (h1 : ∀ j : Fin 2048, V c main_v5 (ix2 0 j) = K j)

include h0 h1 in
/-- A step's places: the ranks' places. -/
theorem dest1 (t : Fin cfg1.N) (a : Fin 512) :
    k1_pay4 (grid1.coords t) (iblk1 V c 0 t) (iblk1 V c 1 t) (ix2 a 0) = BitVec.ofNat 32 (destOf 2048 (rk K (row1 t a))) :=
  k1_pay4_at _ _ _ a K (row1 t a) (by rw [coord1]) ((iblk1_0_at V c t a).trans (h0 _)) fun j => (iblk1_1_at V c t j).trans (h1 j)

include h0 h1 in
theorem step1 (t : Fin cfg1.N) (x : Vec Ideal S1x2048 .i32) (p : Fin 2048)
    (hx : x (ix2 0 p) = BitVec.ofNat 32 (if (permOf (by decide) K p).val < t.val * 512 then (permOf (by decide) K p).val else 0)) :
    perm1 (grid1.coords t) (iblk1 V c 0 t) (iblk1 V c 1 t) x (ix2 0 p)
      = BitVec.ofNat 32 (if (permOf (by decide) K p).val < (t.val + 1) * 512 then (permOf (by decide) K p).val else 0) := by
  have h := lt1 t
  unfold perm1
  rw [k1_pay1_at, hx, coord1, ← BitVec.ofNat_add]
  simp only [dest1 V c K h0 h1]
  refine congrArg (BitVec.ofNat 32) ?_
  exact gather_step (fun i : Fin 2048 => i.val) (fun i => BitVec.ofNat 32 (destOf 2048 (rk K i))) (permOf (by decide) K p) _
    (fun i => ofNat_dest_iff (by decide) (by decide) K i p) t.val (by omega)

include h0 h1 in
/-- The permutation's row after each step: what has been placed so far. -/
theorem run1 : ∀ (n : ℕ) (hn : n < cfg1.N) (p : Fin 2048), (outsAt1 V c n hn).1 (ix2 0 p)
    = BitVec.ofNat 32 (if (permOf (by decide) K p).val < (n + 1) * 512 then (permOf (by decide) K p).val else 0) := by
  intro n
  induction n with
  | zero =>
    intro hn p
    rw [show outsAt1 V c 0 hn = _ from outsAt1_A V c ⟨0, hn⟩ rfl]
    dsimp only
    rw [out1_A2]
    refine step1 V c K h0 h1 ⟨0, hn⟩ _ p ?_
    rw [if_neg (by simp)]
    pointwise [k1_pay2]
  | succ n ih =>
    intro hn p
    have hl := lt1 ⟨n + 1, hn⟩
    rw [show outsAt1 V c (n + 1) hn = _ from outsAt1_B V c ⟨n + 1, hn⟩ (by simp only at hl ⊢; omega)]
    dsimp only
    rw [out1_B2]
    exact step1 V c K h0 h1 ⟨n + 1, hn⟩ _ p (ih (Nat.lt_of_succ_lt hn) p)

include h0 h1 in
/-- THE PERMUTATION the region leaves. -/
theorem arr1_perm : (dat1 V c).arrAt 2 cfg1.N = fun i : S1x2048.Idx => BitVec.ofNat 32 (permOf (by decide) K (i 1)).val := by
  refine (dat1 V c).arrAt_eq_of_covers 2 _ (by decide +kernel) fun t hf y => ?_
  have h3 : t.val % 4 = 3 := (flush1_2 t).mp hf
  have hl := lt1 t
  blk_simp
  rw [after1_2]
  obtain ⟨a, b, rfl⟩ : ∃ (a : Fin 1) (b : Fin 2048), y = ix2 a b := ⟨y 0, y 1, eq_ix2 y⟩
  obtain rfl : a = 0 := Subsingleton.elim _ _
  have e1 : (((View.whole main_v6_0).slice (win1_2.rect t)).emb (ix2 0 b) 1) = b := Fin.ext (by blk_simp [idx1_2 t])
  rw [e1, run1 V c K h0 h1 t.val t.isLt b, if_pos (by have := (permOf (by decide : 2048 % 4 = 0) K b).isLt; omega)]

include h0 h1 in
/-- THE PLACES the region leaves. -/
theorem arr1_dest : (dat1 V c).arrAt 3 cfg1.N = fun i : S2048x1.Idx => BitVec.ofNat 32 (destOf 2048 (rk K (i 0))) := by
  refine (dat1 V c).arrAt_eq_of_covers 3 _ (by decide +kernel) fun t hf y => ?_
  blk_simp
  rw [after1_3]
  obtain ⟨a, b, rfl⟩ : ∃ (a : Fin 512) (b : Fin 1), y = ix2 a b := ⟨y 0, y 1, eq_ix2 y⟩
  obtain rfl : b = 0 := Subsingleton.elim _ _
  have e0 : (((View.whole main_v6_1).slice (win1_3.rect t)).emb (ix2 a 0) 0) = row1 t a := Fin.ext (by blk_simp [idx1_3 t])
  rw [e0]
  by_cases h : t.val % 4 = 0
  · rw [outsAt1_A V c t h]
    dsimp only
    rw [out1_A3]
    exact dest1 V c K h0 h1 t a
  · rw [outsAt1_B V c t h]
    dsimp only
    rw [out1_B3]
    exact dest1 V c K h0 h1 t a

end Ideal

end Cert.KernelIdeal.Run

end
-- ==== Proof.V3.lean ====
module

public import proofs.«01_k».proof.Proof.R3
public import Idealize.ShloMosaic.Lib.Pipeline.ValueKit
public import proofs.«01_k».proof.Proof.Pay0
public import Idealize.ShloMosaic.Lib.Tactic

@[expose] public section

noncomputable section

namespace Cert.KernelIdeal.Run

open Cert.KernelIdeal Cert.KernelIdeal.Gen Cert.Spec
open Idealize.ShloMosaic Idealize.ShloMosaic.TcCoe Idealize.ShloMosaic.Tactic Idealize.SL.Sem
open Idealize.ShloMosaic.Pipeline (Dat)

section Open

variable (c : Dev nD) (i : grid3.Coords) (arg1 : Memref sig .tc .vmem S256x8192 .f32) (harg1 : arg1.IsWhole) (arg2 : Memref sig .tc .vmem S256x8192 .f32) (harg2 : arg2.IsWhole) (arg3 : Memref sig .tc .vmem S8x8192 .f32) (harg3 : arg3.IsWhole)
  (x0 x1 : Vec Ideal S256x8192 .f32) (xo2 : Vec Ideal S8x8192 .f32)

/-- The sum of a block's rows of one residue, over what the row held. -/
def rows3 (z : EReal) (a : Fin 8) (b : Fin 8192) : EReal := addUp z 32 fun k => k3_pay7 x0 x1 (ix2 ⟨8 * k.val + a.val, by omega⟩ b)

theorem out3_A_at (hc0 : cond3_0 i) (hc1 : ¬cond3_1 i) (a : Fin 8) (b : Fin 8192) :
    out3_A_2 c i arg1 harg1 arg2 harg2 arg3 harg3 hc0 hc1 x0 x1 (ix2 a b) = rows3 x0 x1 (k3_pay6 (F := Ideal) (ix2 a b)) a b := by
  unfold rows3
  frame_out
  pointwise [k3_pay1, k3_pay2, k3_pay3, k3_pay4, k3_pay8, k3_pay9, k3_pay10, k3_pay11, k3_pay12, k3_pay13, k3_pay14, k3_pay15, k3_pay16, k3_pay17,
    k3_pay18, k3_pay19, k3_pay20, k3_pay21, k3_pay22, k3_pay23, k3_pay24, k3_pay25, k3_pay26, k3_pay27, k3_pay28, k3_pay29, k3_pay30, k3_pay31,
    k3_pay32, k3_pay33, k3_pay34, k3_pay35, k3_pay36, k3_pay37, k3_pay38, k3_pay39, k3_pay40]
  rw [show (⟨a.val, by omega⟩ : Fin 256) = ⟨8 * 0 + a.val, by omega⟩ from Fin.ext (by simp)]
  rfl

theorem out3_B_at (hc0 : ¬cond3_0 i) (hc1 : ¬cond3_1 i) (a : Fin 8) (b : Fin 8192) :
    out3_B_2 c i arg1 harg1 arg2 harg2 arg3 harg3 hc0 hc1 x0 x1 xo2 (ix2 a b) = rows3 x0 x1 (xo2 (ix2 a b)) a b := by
  unfold rows3
  frame_out
  pointwise [k3_pay1, k3_pay2, k3_pay3, k3_pay4, k3_pay8, k3_pay9, k3_pay10, k3_pay11, k3_pay12, k3_pay13, k3_pay14, k3_pay15, k3_pay16, k3_pay17,
    k3_pay18, k3_pay19, k3_pay20, k3_pay21, k3_pay22, k3_pay23, k3_pay24, k3_pay25, k3_pay26, k3_pay27, k3_pay28, k3_pay29, k3_pay30, k3_pay31,
    k3_pay32, k3_pay33, k3_pay34, k3_pay35, k3_pay36, k3_pay37, k3_pay38, k3_pay39, k3_pay40]
  rw [show (⟨a.val, by omega⟩ : Fin 256) = ⟨8 * 0 + a.val, by omega⟩ from Fin.ext (by simp)]
  rfl

/-- The last step's row: the eight rows added. -/
theorem fin3_at (x : Vec Ideal S8x8192 .f32) (b : Fin 8192) (f : Fin 8 → EReal) (h : ∀ a, x (ix2 a b) = f a) : k3_pay5 x (ix2 0 b) = ∑ a, f a := by
  rw [← tree8]
  simp only [← h]
  pointwise [k3_pay5]

theorem out3_C_at (hc0 : ¬cond3_0 i) (hc1 : cond3_1 i) (b : Fin 8192) :
    out3_C_2 c i arg1 harg1 arg2 harg2 arg3 harg3 hc0 hc1 x0 x1 xo2 (ix2 0 b) = ∑ a, rows3 x0 x1 (xo2 (ix2 a b)) a b := by
  have e : (ix2 0 b : S8x8192.Idx) = (Rect.unit (s := S8x8192) ![0, 0] S1x8192.size inb_S8x8192_S1x8192_0_0).emb (ix2 0 b) := by
    funext a; fin_cases a <;> exact Fin.ext (by simp)
  refine (congrArg _ e).trans ?_
  frame_out
  refine (View.canon_cons_emb _ _ _ _).trans (fin3_at _ b _ fun a => ?_)
  unfold rows3
  pointwise [k3_pay1, k3_pay2, k3_pay3, k3_pay4, k3_pay8, k3_pay9, k3_pay10, k3_pay11, k3_pay12, k3_pay13, k3_pay14, k3_pay15, k3_pay16, k3_pay17,
    k3_pay18, k3_pay19, k3_pay20, k3_pay21, k3_pay22, k3_pay23, k3_pay24, k3_pay25, k3_pay26, k3_pay27, k3_pay28, k3_pay29, k3_pay30, k3_pay31,
    k3_pay32, k3_pay33, k3_pay34, k3_pay35, k3_pay36, k3_pay37, k3_pay38, k3_pay39, k3_pay40]
  rw [show (⟨a.val, by omega⟩ : Fin 256) = ⟨8 * 0 + a.val, by omega⟩ from Fin.ext (by simp)]
  rfl

end Open

/-! ## The region's result, at the ideal values -/

section Ideal

variable (V : (c : Dev nD) → (b : Ref sig .tc) → Buf (Elt Ideal) ((c : Thread nD τ).loc b))

theorem idx3_0 : ∀ t : Fin cfg3.N, win3_0.index t = ![t.val, 0] := (by decide +kernel : ∀ t : Fin grid3.N, _)
theorem idx3_1 : ∀ t : Fin cfg3.N, win3_1.index t = ![t.val, 0] := (by decide +kernel : ∀ t : Fin grid3.N, _)
theorem idx3_2 : ∀ t : Fin cfg3.N, win3_2.index t = ![0, 0] := (by decide +kernel : ∀ t : Fin grid3.N, _)

theorem lt3 (t : Fin cfg3.N) : t.val < 8 := lt_of_lt_of_eq t.isLt N_3

/-- The row of the arrays a block's row is at a point. -/
abbrev row3 (t : Fin cfg3.N) (a : Fin 256) : Fin 2048 := ⟨t.val * 256 + a.val, by have := lt3 t; omega⟩

theorem iblk3_0_at (c : Dev nD) (t : Fin cfg3.N) (a : Fin 256) (b : Fin 8192) : iblk3 V c 0 t (ix2 a b) = V c main_arg2 (ix2 (row3 t a) b) := by
  blk_ext! [iblk3, idx3_0 t]

theorem iblk3_1_at (c : Dev nD) (t : Fin cfg3.N) (a : Fin 256) (b : Fin 8192) : iblk3 V c 1 t (ix2 a b) = V c main_arg3 (ix2 (row3 t a) b) := by
  blk_ext! [iblk3, idx3_1 t]

/-- The square one entry adds to its column's sum. -/
def sq3 (c : Dev nD) (b : Fin 8192) (r : Fin 2048) : EReal :=
  FloatOps.mulf (F := Ideal) (φ := .f32) (FloatOps.mulf (F := Ideal) (φ := .f32) (FloatOps.absf (F := Ideal) (φ := .f32) (V c main_arg2 (ix2 r b))) (V c main_arg3 (ix2 r b)))
    (FloatOps.mulf (F := Ideal) (φ := .f32) (FloatOps.absf (F := Ideal) (φ := .f32) (V c main_arg2 (ix2 r b))) (V c main_arg3 (ix2 r b)))

theorem sq3_at (c : Dev nD) (t : Fin cfg3.N) (a : Fin 256) (b : Fin 8192) :
    k3_pay7 (iblk3 V c 0 t) (iblk3 V c 1 t) (ix2 a b) = sq3 V c b (row3 t a) := by
  unfold sq3
  rw [← iblk3_0_at V c t a b, ← iblk3_1_at V c t a b]
  pointwise [k3_pay7]

theorem rows3_at (c : Dev nD) (t : Fin cfg3.N) (z : EReal) (a : Fin 8) (b : Fin 8192) :
    rows3 (iblk3 V c 0 t) (iblk3 V c 1 t) z a b = z + ∑ k : Fin 32, onNat (sq3 V c b) (t.val * (8 * 32) + (8 * k.val + a.val)) := by
  unfold rows3
  rw [addUp_eq]
  refine congrArg (z + ·) (Finset.sum_congr rfl fun k _ => ?_)
  rw [sq3_at, onNat_of _ _ (row3 t ⟨8 * k.val + a.val, by omega⟩) rfl]

/-- The eight running rows after each point but the last: the squares so far, by residue. -/
theorem run3 (c : Dev nD) : ∀ (n : ℕ) (hn : n < cfg3.N), n % 8 ≠ 7 → ∀ (a : Fin 8) (b : Fin 8192),
    outsAt3 V c n hn (ix2 a b) = ∑ s ∈ Finset.range (n + 1), ∑ k : Fin 32, onNat (sq3 V c b) (s * (8 * 32) + (8 * k.val + a.val)) := by
  intro n
  induction n with
  | zero =>
    intro hn h7 a b
    rw [show outsAt3 V c 0 hn = _ from outsAt3_A V c ⟨0, hn⟩ rfl h7, out3_A_at, rows3_at, Finset.sum_range_one]
    rw [show k3_pay6 (F := Ideal) (ix2 a b) = (0 : EReal) by pointwise [k3_pay6], zero_add]
  | succ n ih =>
    intro hn h7 a b
    have hl := lt3 ⟨n + 1, hn⟩
    simp only at hl
    rw [show outsAt3 V c (n + 1) hn = _ from outsAt3_B V c ⟨n + 1, hn⟩ (by simp only; omega) h7, out3_B_at, rows3_at, Finset.sum_range_succ]
    exact congrArg (· + _) (ih (Nat.lt_of_succ_lt hn) (by omega) a b)

/-- The first row after the last point: the column's sum of squares. -/
theorem last3 (c : Dev nD) (t : Fin cfg3.N) (h7 : t.val % 8 = 7) (b : Fin 8192) :
    outsAt3 V c t.val t.isLt (ix2 0 b) = ∑ r, sq3 V c b r := by
  have hl := lt3 t
  rw [outsAt3_C V c t (by omega) h7, out3_C_at, ← rows_total (sq3 V c b) 8 32 (by decide)]
  refine Finset.sum_congr rfl fun a _ => ?_
  rw [rows3_at, run3 V c (t.val - 1) _ (by omega) a b]
  have e : t.val = 7 := by omega
  simp only [e]
  exact (Finset.sum_range_succ (fun s => ∑ k : Fin 32, onNat (sq3 V c b) (s * (8 * 32) + (8 * k.val + a.val))) 7).symm

theorem seven3 : 7 < cfg3.N := lt_of_lt_of_eq (by decide) N_3.symm

/-- THE SUMS the region leaves in its first row. -/
theorem arr3 (c : Dev nD) (b : Fin 8192) : (dat3 V c).arrAt 2 cfg3.N (ix2 0 b) = ∑ r, sq3 V c b r := by
  have h := (dat3 V c).arrAt_eq_of_covers 2 (fun i : S8x8192.Idx => outsAt3 V c 7 seven3 i) (by decide +kernel) fun t hf y => by
    have h7 : t.val % 8 = 7 := (flush3_2 t).mp hf
    have hl := lt3 t
    have ho : ∀ (n : ℕ) (hn : n < cfg3.N), n = 7 → outsAt3 V c n hn = outsAt3 V c 7 seven3 := by rintro n hn rfl; rfl
    blk_simp
    rw [after3_2, ho t.val t.isLt (by omega)]
    obtain ⟨a, b, rfl⟩ : ∃ (a : Fin 8) (b : Fin 8192), y = ix2 a b := ⟨y 0, y 1, eq_ix2 y⟩
    refine congrArg _ ?_
    funext e; fin_cases e <;> exact Fin.ext (by blk_simp [idx3_2 t])
  rw [h]
  exact last3 V c ⟨7, seven3⟩ rfl b

end Ideal

end Cert.KernelIdeal.Run

end
-- ==== Proof.V4.lean ====
module

public import proofs.«01_k».proof.Proof.R4
public import Idealize.ShloMosaic.Lib.Pipeline.ValueKit
public import proofs.«01_k».proof.Proof.Pay1
public import proofs.«01_k».proof.Proof.V2
public import Idealize.ShloMosaic.Lib.Tactic

@[expose] public section

noncomputable section

namespace Cert.KernelIdeal.Run

open Cert.KernelIdeal Cert.KernelIdeal.Gen Cert.Spec
open Idealize.ShloMosaic Idealize.ShloMosaic.TcCoe Idealize.ShloMosaic.Tactic Idealize.SL.Sem
open Idealize.ShloMosaic.Pipeline (Dat)

variable {F : FTy → Type} [FloatOps F]

section Open

variable (c : Dev nD) (i : grid4.Coords) (arg1 : Memref sig .tc .vmem S512x1 .f32) (harg1 : arg1.IsWhole) (arg2 : Memref sig .tc .vmem S1x8192 .f32) (harg2 : arg2.IsWhole) (arg3 : Memref sig .tc .vmem S1x8192 .i32) (harg3 : arg3.IsWhole) (arg4 : Memref sig .tc .vmem S512x1 .i32) (harg4 : arg4.IsWhole)
  (x0 : Vec F S512x1 .f32) (x1 : Vec F S1x8192 .f32) (xo2 : Vec F S1x8192 .i32)

/-- The permutation's row after a step over the row before. -/
def perm4 (x : Vec F S1x8192 .i32) : Vec F S1x8192 .i32 :=
  k4_pay1 (F := F) (k4_pay3 i) (iota .tc S512x8192 32 [1] iota_S512x8192_d1_w32) (k4_pay4 i x0 x1) x

theorem out4_A2 (hc0 : cond4_0 i) : out4_A_2 c i arg1 harg1 arg2 harg2 arg3 harg3 arg4 harg4 hc0 x0 x1 = perm4 i x0 x1 k4_pay2 := by
  unfold out4_A_2 perm4
  rw [View.read_writes_eq_canon _ _ _ (cover4_A_2 c i arg1 harg1 arg2 harg2 arg3 harg3 arg4 harg4 hc0 x0 x1)]
  unfold kernelRun4_A
  dsimp only
  sl_unfold_words
  rw [View.canon_cons_unit_zero (S := S1x8192) hz]
  simp only [View.readCov_unit_zero (S := S1x8192) _ hz, View.readAt_eq_ld, harg1.read_unread, harg2.read_unread, View.ld_unit_zero (S := S512x1) hz, View.ld_unit_zero (S := S1x8192) hz]

theorem out4_A3 (hc0 : cond4_0 i) : out4_A_3 c i arg1 harg1 arg2 harg2 arg3 harg3 arg4 harg4 hc0 x0 x1 = k4_pay4 i x0 x1 := by
  unfold out4_A_3
  rw [View.read_writes_eq_canon _ _ _ (cover4_A_3 c i arg1 harg1 arg2 harg2 arg3 harg3 arg4 harg4 hc0 x0 x1)]
  unfold kernelRun4_A
  dsimp only
  sl_unfold_words
  rw [View.canon_unit_zero hz]
  simp only [View.readAt_eq_ld, harg1.read_unread, harg2.read_unread, View.ld_unit_zero (S := S512x1) hz, View.ld_unit_zero (S := S1x8192) hz]

theorem out4_B2 (hc0 : ¬cond4_0 i) : out4_B_2 c i arg1 harg1 arg2 harg2 arg3 harg3 arg4 harg4 hc0 x0 x1 xo2 = perm4 i x0 x1 xo2 := by
  unfold out4_B_2
  rw [View.read_writes_eq_canon _ _ _ (cover4_B_2 c i arg1 harg1 arg2 harg2 arg3 harg3 arg4 harg4 hc0 x0 x1 xo2)]
  unfold kernelRun4_B
  dsimp only
  sl_unfold_words
  rw [View.canon_unit_zero hz]
  simp only [View.readAt_eq_ld, harg1.read_unread, harg2.read_unread, harg3.read_unread, View.ld_unit_zero (S := S512x1) hz, View.ld_unit_zero (S := S1x8192) hz]
  rfl

theorem out4_B3 (hc0 : ¬cond4_0 i) : out4_B_3 c i arg1 harg1 arg2 harg2 arg3 harg3 arg4 harg4 hc0 x0 x1 xo2 = k4_pay4 i x0 x1 := by
  unfold out4_B_3
  rw [View.read_writes_eq_canon _ _ _ (cover4_B_3 c i arg1 harg1 arg2 harg2 arg3 harg3 arg4 harg4 hc0 x0 x1 xo2)]
  unfold kernelRun4_B
  dsimp only
  sl_unfold_words
  rw [View.canon_unit_zero hz]
  simp only [View.readAt_eq_ld, harg1.read_unread, harg2.read_unread, View.ld_unit_zero (S := S512x1) hz, View.ld_unit_zero (S := S1x8192) hz]

end Open

/-! ## The region's results, at the ideal values -/

section Ideal

variable (V : (c : Dev nD) → (b : Ref sig .tc) → Buf (Elt Ideal) ((c : Thread nD τ).loc b))

theorem idx4_0 : ∀ t : Fin cfg4.N, win4_0.index t = ![t.val, 0] := (by decide +kernel : ∀ t : Fin grid4.N, _)
theorem idx4_1 : ∀ t : Fin cfg4.N, win4_1.index t = ![0, 0] := (by decide +kernel : ∀ t : Fin grid4.N, _)
theorem idx4_2 : ∀ t : Fin cfg4.N, win4_2.index t = ![0, 0] := (by decide +kernel : ∀ t : Fin grid4.N, _)
theorem idx4_3 : ∀ t : Fin cfg4.N, win4_3.index t = ![t.val, 0] := (by decide +kernel : ∀ t : Fin grid4.N, _)

theorem lt4 (t : Fin cfg4.N) : t.val < 16 := lt_of_lt_of_eq t.isLt N_4

/-- The key a step's row stands for. -/
abbrev row4 (t : Fin cfg4.N) (a : Fin 512) : Fin 8192 := ⟨t.val * 512 + a.val, by have := lt4 t; omega⟩

theorem iblk4_0_at (c : Dev nD) (t : Fin cfg4.N) (a : Fin 512) : iblk4 V c 0 t (ix2 a 0) = V c main_v13 (ix2 (row4 t a) 0) := by
  blk_ext! [iblk4, idx4_0 t]

theorem iblk4_1_at (c : Dev nD) (t : Fin cfg4.N) (j : Fin 8192) : iblk4 V c 1 t (ix2 0 j) = V c main_v14 (ix2 0 j) := by
  blk_ext! [iblk4, idx4_1 t]

theorem coord4 (t : Fin cfg4.N) : (grid4.coords t 0).val = t.val :=
  (show (grid4.coords t 0).val = t.val / 1 % 16 from Pipeline.Grid.coords_val t 0 (by decide) rfl).trans (by have := lt4 t; omega)

variable (c : Dev nD) (K : Fin 8192 → EReal) (h0 : ∀ i : Fin 8192, V c main_v13 (ix2 i 0) = K i) (h1 : ∀ j : Fin 8192, V c main_v14 (ix2 0 j) = K j)

include h0 h1 in
/-- A step's places: the ranks' places. -/
theorem dest4 (t : Fin cfg4.N) (a : Fin 512) :
    k4_pay4 (grid4.coords t) (iblk4 V c 0 t) (iblk4 V c 1 t) (ix2 a 0) = BitVec.ofNat 32 (destOf 8192 (rk K (row4 t a))) :=
  k4_pay4_at _ _ _ a K (row4 t a) (by rw [coord4]) ((iblk4_0_at V c t a).trans (h0 _)) fun j => (iblk4_1_at V c t j).trans (h1 j)

include h0 h1 in
theorem step4 (t : Fin cfg4.N) (x : Vec Ideal S1x8192 .i32) (p : Fin 8192)
    (hx : x (ix2 0 p) = BitVec.ofNat 32 (if (permOf (by decide) K p).val < t.val * 512 then (permOf (by decide) K p).val else 0)) :
    perm4 (grid4.coords t) (iblk4 V c 0 t) (iblk4 V c 1 t) x (ix2 0 p)
      = BitVec.ofNat 32 (if (permOf (by decide) K p).val < (t.val + 1) * 512 then (permOf (by decide) K p).val else 0) := by
  have h := lt4 t
  unfold perm4
  rw [k4_pay1_at, hx, coord4, ← BitVec.ofNat_add]
  simp only [dest4 V c K h0 h1]
  refine congrArg (BitVec.ofNat 32) ?_
  exact gather_step (fun i : Fin 8192 => i.val) (fun i => BitVec.ofNat 32 (destOf 8192 (rk K i))) (permOf (by decide) K p) _
    (fun i => ofNat_dest_iff (by decide) (by decide) K i p) t.val (by omega)

include h0 h1 in
/-- The permutation's row after each step: what has been placed so far. -/
theorem run4 : ∀ (n : ℕ) (hn : n < cfg4.N) (p : Fin 8192), (outsAt4 V c n hn).1 (ix2 0 p)
    = BitVec.ofNat 32 (if (permOf (by decide) K p).val < (n + 1) * 512 then (permOf (by decide) K p).val else 0) := by
  intro n
  induction n with
  | zero =>
    intro hn p
    rw [show outsAt4 V c 0 hn = _ from outsAt4_A V c ⟨0, hn⟩ rfl]
    dsimp only
    rw [out4_A2]
    refine step4 V c K h0 h1 ⟨0, hn⟩ _ p ?_
    rw [if_neg (by simp)]
    pointwise [k4_pay2]
  | succ n ih =>
    intro hn p
    have hl := lt4 ⟨n + 1, hn⟩
    rw [show outsAt4 V c (n + 1) hn = _ from outsAt4_B V c ⟨n + 1, hn⟩ (by simp only at hl ⊢; omega)]
    dsimp only
    rw [out4_B2]
    exact step4 V c K h0 h1 ⟨n + 1, hn⟩ _ p (ih (Nat.lt_of_succ_lt hn) p)

include h0 h1 in
/-- THE PERMUTATION the region leaves. -/
theorem arr4_perm : (dat4 V c).arrAt 2 cfg4.N = fun i : S1x8192.Idx => BitVec.ofNat 32 (permOf (by decide) K (i 1)).val := by
  refine (dat4 V c).arrAt_eq_of_covers 2 _ (by decide +kernel) fun t hf y => ?_
  have h3 : t.val % 16 = 15 := (flush4_2 t).mp hf
  have hl := lt4 t
  blk_simp
  rw [after4_2]
  obtain ⟨a, b, rfl⟩ : ∃ (a : Fin 1) (b : Fin 8192), y = ix2 a b := ⟨y 0, y 1, eq_ix2 y⟩
  obtain rfl : a = 0 := Subsingleton.elim _ _
  have e1 : (((View.whole main_v15_0).slice (win4_2.rect t)).emb (ix2 0 b) 1) = b := Fin.ext (by blk_simp [idx4_2 t])
  rw [e1, run4 V c K h0 h1 t.val t.isLt b, if_pos (by have := (permOf (by decide : 8192 % 4 = 0) K b).isLt; omega)]

include h0 h1 in
/-- THE PLACES the region leaves. -/
theorem arr4_dest : (dat4 V c).arrAt 3 cfg4.N = fun i : S8192x1.Idx => BitVec.ofNat 32 (destOf 8192 (rk K (i 0))) := by
  refine (dat4 V c).arrAt_eq_of_covers 3 _ (by decide +kernel) fun t hf y => ?_
  blk_simp
  rw [after4_3]
  obtain ⟨a, b, rfl⟩ : ∃ (a : Fin 512) (b : Fin 1), y = ix2 a b := ⟨y 0, y 1, eq_ix2 y⟩
  obtain rfl : b = 0 := Subsingleton.elim _ _
  have e0 : (((View.whole main_v15_1).slice (win4_3.rect t)).emb (ix2 a 0) 0) = row4 t a := Fin.ext (by blk_simp [idx4_3 t])
  rw [e0]
  by_cases h : t.val % 16 = 0
  · rw [outsAt4_A V c t h]
    dsimp only
    rw [out4_A3]
    exact dest4 V c K h0 h1 t a
  · rw [outsAt4_B V c t h]
    dsimp only
    rw [out4_B3]
    exact dest4 V c K h0 h1 t a

end Ideal

end Cert.KernelIdeal.Run

end
-- ==== Proof.V5.lean ====
module

public import proofs.«01_k».proof.Proof.R5
public import Idealize.ShloMosaic.Lib.Pipeline.ValueKit
public import proofs.«01_k».proof.Proof.V2
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem sout5_A (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : cond5_0 i) (hc1 : ¬cond5_1 i)
    (x0 : Vec F S512x1 .i32) (x1 : Vec F S512x512 .f32) : sout5_A_0 c i arg3 harg3 arg4 harg4 arg5 harg5 arg6 harg6 hc0 hc1 x0 x1 = k5_pay2 i x0 k5_pay1 x1 := by
  unfold sout5_A_0
  rw [View.read_writes_eq_canon _ _ _ (scover5_A_0 c i arg3 harg3 arg4 harg4 arg5 harg5 arg6 harg6 hc0 hc1 x0 x1)]
  unfold kernelRun5_A
  dsimp only
  sl_unfold_words
  rw [View.canon_cons_unit_zero (S := S512x512) hz]
  simp only [View.readCov_unit_zero (S := S512x512) _ hz, View.readAt_eq_ld, harg3.read_unread, harg4.read_unread, View.ld_unit_zero (S := S512x512) hz, View.ld_unit_zero (S := S512x1) hz]

theorem sout5_B (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : ¬cond5_1 i)
    (x0 : Vec F S512x1 .i32) (x1 xs0 : Vec F S512x512 .f32) : sout5_B_0 c i arg3 harg3 arg4 harg4 arg5 harg5 arg6 harg6 hc0 hc1 x0 x1 xs0 = k5_pay2 i x0 xs0 x1 := by
  unfold sout5_B_0
  rw [View.read_writes_eq_canon _ _ _ (scover5_B_0 c i arg3 harg3 arg4 harg4 arg5 harg5 arg6 harg6 hc0 hc1 x0 x1 xs0)]
  unfold kernelRun5_B
  dsimp only
  sl_unfold_words
  rw [View.canon_unit_zero hz]
  simp only [View.readAt_eq_ld, harg3.read_unread, harg4.read_unread, harg6.read_unread, View.ld_unit_zero (S := S512x512) hz, View.ld_unit_zero (S := S512x1) hz]

theorem out5_C (c : Dev nD) (i : grid5.Coords) (arg3 : Memref sig .tc .vmem S512x1 .i32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (hc0 : ¬cond5_0 i) (hc1 : cond5_1 i)
    (x0 : Vec F S512x1 .i32) (x1 xs0 : Vec F S512x512 .f32) : out5_C_2 c i arg3 harg3 arg4 harg4 arg5 harg5 arg6 harg6 hc0 hc1 x0 x1 xs0 = keep2 (k5_pay2 i x0 xs0 x1) := by
  unfold out5_C_2
  rw [View.read_writes_eq_canon _ _ _ (cover5_C_2 c i arg3 harg3 arg4 harg4 arg5 harg5 arg6 harg6 hc0 hc1 x0 x1 xs0)]
  unfold kernelRun5_C
  dsimp only
  sl_unfold_words
  rw [View.canon_unit_zero hz]
  simp only [View.readCov_unit_zero (S := S512x512) _ hz, View.readAt_eq_ld, harg3.read_unread, harg4.read_unread, harg6.read_unread, View.ld_unit_zero (S := S512x512) hz, View.ld_unit_zero (S := S512x1) hz]
  rfl

/-! ## The region's result, at the ideal values -/

section Ideal

theorem k5_pay2_at (i : grid5.Coords) (x0 : Vec Ideal S512x1 .i32) (xs x1 : Vec Ideal S512x512 .f32) (a b : Fin 512) :
    k5_pay2 i x0 xs x1 (ix2 a b)
      = (xs (ix2 a b) : EReal) + ∑ k : Fin 512, if x0 (ix2 k 0) = BitVec.ofNat 32 ((i 1).val * 512 + b.val) then (x1 (ix2 a k) : EReal) else 0 := by
  pointwise [k5_pay2]
  exact gather_tail (x0 := x0) _ _ _ a b

variable (V : (c : Dev nD) → (b : Ref sig .tc) → Buf (Elt Ideal) ((c : Thread nD τ).loc b))

theorem idx5_0 : ∀ t : Fin cfg5.N, win5_0.index t = ![t.val % 16, 0] := (by decide +kernel : ∀ t : Fin grid5.N, _)
theorem idx5_1 : ∀ t : Fin cfg5.N, win5_1.index t = ![t.val / 256, t.val % 16] := (by decide +kernel : ∀ t : Fin grid5.N, _)
theorem idx5_2 : ∀ t : Fin cfg5.N, win5_2.index t = ![t.val / 256, t.val / 16 % 16] := (by decide +kernel : ∀ t : Fin grid5.N, _)

theorem lt5 (t : Fin cfg5.N) : t.val < 1024 := lt_of_lt_of_eq t.isLt N_5

theorem iblk5_0_at (c : Dev nD) (t : Fin cfg5.N) (k : Fin 512) :
    iblk5 V c 0 t (ix2 k 0) = V c main_v15_1 (ix2 ⟨t.val % 16 * 512 + k.val, by omega⟩ 0) := by
  blk_ext! [iblk5, idx5_0 t]

theorem iblk5_1_at (c : Dev nD) (t : Fin cfg5.N) (a k : Fin 512) :
    iblk5 V c 1 t (ix2 a k)
      = V c main_arg2 (ix2 ⟨t.val / 256 * 512 + a.val, by have := lt5 t; omega⟩ ⟨t.val % 16 * 512 + k.val, by omega⟩) := by
  blk_ext! [iblk5, idx5_1 t]

/-- The column of the array a tile's column is at point `t`, and the row. -/
abbrev col5 (t : Fin cfg5.N) (b : Fin 512) : Fin 8192 := ⟨t.val / 16 % 16 * 512 + b.val, by omega⟩
abbrev row5 (t : Fin cfg5.N) (a : Fin 512) : Fin 2048 := ⟨t.val / 256 * 512 + a.val, by have := lt5 t; omega⟩

variable (c : Dev nD) (q : Fin 8192 → Fin 8192)
  (hq : ∀ i p : Fin 8192, V c main_v15_1 (ix2 i 0) = BitVec.ofNat 32 p.val ↔ i = q p)

include hq in
theorem step5 (t : Fin cfg5.N) (xs : Vec Ideal S512x512 .f32) (a b : Fin 512)
    (hx : xs (ix2 a b) = (if (q (col5 t b)).val < t.val % 16 * 512 then V c main_arg2 (ix2 (row5 t a) (q (col5 t b))) else (0 : EReal))) :
    k5_pay2 (grid5.coords t) (iblk5 V c 0 t) xs (iblk5 V c 1 t) (ix2 a b)
      = (if (q (col5 t b)).val < (t.val % 16 + 1) * 512 then V c main_arg2 (ix2 (row5 t a) (q (col5 t b))) else (0 : EReal)) := by
  have e1 : (grid5.coords t 1).val = t.val / 16 % 16 := Pipeline.Grid.coords_val t 1 (by decide) rfl
  rw [k5_pay2_at, hx, e1]
  simp only [iblk5_0_at, iblk5_1_at]
  exact gather_step (M := EReal) (fun i => V c main_arg2 (ix2 (row5 t a) i)) (fun i => V c main_v15_1 (ix2 i 0)) (q (col5 t b)) _
    (fun i => hq i (col5 t b)) (t.val % 16) (by omega)

include hq in
/-- The running tile after each point but a run's last: the columns selected so far. -/
theorem run5 : ∀ (n : ℕ) (hn : n < cfg5.N), n % 16 ≠ 15 → ∀ a b : Fin 512,
    (outsAt5 V c n hn).2 (ix2 a b)
      = (if (q (col5 ⟨n, hn⟩ b)).val < (n % 16 + 1) * 512 then V c main_arg2 (ix2 (row5 ⟨n, hn⟩ a) (q (col5 ⟨n, hn⟩ b))) else (0 : EReal)) := by
  intro n
  induction n with
  | zero =>
    intro hn h3 a b
    rw [show outsAt5 V c 0 hn = _ from outsAt5_A V c ⟨0, hn⟩ rfl h3]
    dsimp only
    rw [sout5_A]
    refine step5 V c q hq ⟨0, hn⟩ _ a b ?_
    rw [if_neg (by simp)]
    pointwise [k5_pay1]
  | succ n ih =>
    intro hn h3 a b
    by_cases h0 : (n + 1) % 16 = 0
    · rw [show outsAt5 V c (n + 1) hn = _ from outsAt5_A V c ⟨n + 1, hn⟩ h0 h3]
      dsimp only
      rw [sout5_A]
      refine step5 V c q hq ⟨n + 1, hn⟩ _ a b ?_
      rw [if_neg (by simp [h0])]
      pointwise [k5_pay1]
    · rw [show outsAt5 V c (n + 1) hn = _ from outsAt5_B V c ⟨n + 1, hn⟩ h0 h3]
      dsimp only
      rw [sout5_B]
      refine step5 V c q hq ⟨n + 1, hn⟩ _ a b ?_
      have e1 : col5 ⟨n, Nat.lt_of_succ_lt hn⟩ b = col5 ⟨n + 1, hn⟩ b := Fin.ext (by simp only; omega)
      have e2 : row5 ⟨n, Nat.lt_of_succ_lt hn⟩ a = row5 ⟨n + 1, hn⟩ a := Fin.ext (by simp only; omega)
      have e3 : (n + 1) % 16 = n % 16 + 1 := by omega
      have := ih (Nat.lt_of_succ_lt hn) (by omega) a b
      rw [e1, e2] at this
      simp only [e3]
      exact this

include hq in
/-- The tile before the rule, at a run's last point: the columns selected. -/
theorem last5 (t : Fin cfg5.N) (h3 : t.val % 16 = 15) (a b : Fin 512) :
    k5_pay2 (grid5.coords t) (iblk5 V c 0 t) (outsAt5 V c (t.val - 1) (Nat.lt_of_le_of_lt (Nat.sub_le _ _) t.isLt)).2 (iblk5 V c 1 t) (ix2 a b)
      = (V c main_arg2 (ix2 (row5 t a) (q (col5 t b))) : EReal) := by
  have h := lt5 t
  have hn : t.val - 1 < cfg5.N := Nat.lt_of_le_of_lt (Nat.sub_le _ _) t.isLt
  have e1 : col5 ⟨t.val - 1, hn⟩ b = col5 t b := Fin.ext (by simp only; omega)
  have e2 : row5 ⟨t.val - 1, hn⟩ a = row5 t a := Fin.ext (by simp only; omega)
  have e3 : t.val % 16 = (t.val - 1) % 16 + 1 := by omega
  rw [step5 V c q hq t _ a b ?_, if_pos (by have := (q (col5 t b)).isLt; omega)]
  have := run5 V c q hq (t.val - 1) hn (by omega) a b
  rw [e1, e2, ← e3] at this
  exact this

include hq in
/-- THE REGION'S RESULT: the columns selected, the two largest of each four kept. -/
theorem arr5 : (dat5 V c).arrAt 2 cfg5.N
    = fun i : S2048x8192.Idx => kept (by decide) (fun j => (V c main_arg2 (ix2 (i 0) j) : EReal)) q (i 1) := by
  refine (dat5 V c).arrAt_eq_of_covers 2 _ (by decide +kernel) fun t hf y => ?_
  have h3 : t.val % 16 = 15 := (flush5_2 t).mp hf
  blk_simp
  rw [after5_2, outsAt5_C V c t (by omega) h3]
  dsimp only
  rw [out5_C]
  obtain ⟨a, b, rfl⟩ : ∃ a b : Fin 512, y = ix2 a b := ⟨y 0, y 1, eq_ix2 y⟩
  have e0 : (((View.whole main_v17).slice (win5_2.rect t)).emb (ix2 a b) 0) = row5 t a := Fin.ext (by blk_simp [idx5_2 t])
  have e1 : (((View.whole main_v17).slice (win5_2.rect t)).emb (ix2 a b) 1) = col5 t b := Fin.ext (by blk_simp [idx5_2 t])
  rw [e0, e1]
  refine (k2_pay3_at _ a b).trans (kept_of_tile _ _ q _ (t.val / 16 % 16) a b (col5 t b) rfl fun b' p' hp' => ?_)
  rw [last5 V c q hq t h3 a b', show p' = col5 t b' from Fin.ext hp']

end Ideal

end Cert.KernelIdeal.Run

end
-- ==== Proof.Final.lean ====
module

public import proofs.«01_k».proof.Proof.Launched
public import proofs.«01_k».proof.Proof.Norm
public import proofs.«01_k».proof.Proof.V0
public import proofs.«01_k».proof.Proof.V1
public import proofs.«01_k».proof.Proof.V2
public import proofs.«01_k».proof.Proof.V3
public import proofs.«01_k».proof.Proof.V4
public import proofs.«01_k».proof.Proof.V5

@[expose] public section

noncomputable section

namespace Cert.KernelIdeal.Run

open Cert.KernelIdeal Cert.KernelIdeal.Gen Cert.Spec
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

theorem key1_col (i : Fin 2048) : V2 m ρ c main_v4 (ix2 i 0) = FloatOps.hostUnary (F := Ideal) (φ := .f32) .sqrt (V1 m ρ c main_v0 (ix2 0 i)) := by
  have e : V2 m ρ c main_v4 = shapeCast S2048x1 (Host.sqrt (F := Ideal) (φ := .f32) (shapeCast S2048 (extractStridedSlice S1x2048 ![0, 0] (V1 m ρ c main_v0) slices_S8x2048_S1x2048_0_0) shapeCasts_S1x2048_S2048)) shapeCasts_S2048_S2048x1 := by
    show StableHlo.after hostOps1 (W1 m ρ c) _ = _
    after_results
    rfl
  rw [e]
  pointwise []

theorem key1_row (i : Fin 2048) : V2 m ρ c main_v5 (ix2 0 i) = FloatOps.hostUnary (F := Ideal) (φ := .f32) .sqrt (V1 m ρ c main_v0 (ix2 0 i)) := by
  have e : V2 m ρ c main_v5 = shapeCast S1x2048 (Host.sqrt (F := Ideal) (φ := .f32) (shapeCast S2048 (extractStridedSlice S1x2048 ![0, 0] (V1 m ρ c main_v0) slices_S8x2048_S1x2048_0_0) shapeCasts_S1x2048_S2048)) shapeCasts_S2048_S1x2048 := by
    show StableHlo.after hostOps1 (W1 m ρ c) _ = _
    after_results
    rfl
  rw [e]
  pointwise []

/-- The key of each column of the first weight. -/
def K1 (j : Fin 2048) : EReal := colNorm (fun r : Fin 8192 => m ((c : Thread nD τ).loc main_arg0) (ix2 r j)) (fun r => m ((c : Thread nD τ).loc main_arg1) (ix2 r j))

theorem key1_eq (j : Fin 2048) : FloatOps.hostUnary (F := Ideal) (φ := .f32) .sqrt (V1 m ρ c main_v0 (ix2 0 j)) = K1 m c j := by
  have e : V1 m ρ c main_v0 (ix2 0 j) = ∑ r, sq0 (V0 m ρ) c j r := by
    rw [← arr0 (V0 m ρ) c j]
    exact congrFun (W1_arr m ρ c 2) (ix2 0 j)
  rw [e]
  unfold K1 colNorm sq0
  rw [show V0 m ρ c main_arg0 = m ((c : Thread nD τ).loc main_arg0) from W0_args m ρ c _ (by decide),
    show V0 m ρ c main_arg1 = m ((c : Thread nD τ).loc main_arg1) from W0_args m ρ c _ (by decide)]

theorem permBuf1 : V3 m ρ c main_v6_0 = fun i : S1x2048.Idx => BitVec.ofNat 32 (permOf (by decide) (K1 m c) (i 1)).val :=
  (W3_arr m ρ c 2).trans (arr1_perm (V2 m ρ) c (K1 m c) (fun i => (key1_col m ρ c i).trans (key1_eq m ρ c i)) (fun i => (key1_row m ρ c i).trans (key1_eq m ρ c i)))

theorem destBuf1 : V3 m ρ c main_v6_1 = fun i : S2048x1.Idx => BitVec.ofNat 32 (destOf 2048 (rk (K1 m c) (i 0))) :=
  (W3_arr m ρ c 3).trans (arr1_dest (V2 m ρ) c (K1 m c) (fun i => (key1_col m ρ c i).trans (key1_eq m ρ c i)) (fun i => (key1_row m ρ c i).trans (key1_eq m ρ c i)))

/-- The permutation the first weight's columns are taken by, as the program returns it. -/
theorem order1 (p : Fin 2048) : V4 m ρ c main_v7 (ix1 p) = BitVec.ofNat 32 (permOf (by decide) (K1 m c) p).val := by
  have e : V4 m ρ c main_v7 = shapeCast S2048 (V3 m ρ c main_v6_0) shapeCasts_S1x2048_S2048 := by
    show StableHlo.after hostOps2 (W3 m ρ c) _ = _
    after_results
    rfl
  have h : ∀ y : S1x2048.Idx → BitVec 32, shapeCast S2048 y shapeCasts_S1x2048_S2048 (ix1 p) = y (ix2 0 p) := by
    intro y
    pointwise []
  exact (congrFun e (ix1 p)).trans ((h _).trans (congrFun (permBuf1 m ρ c) (ix2 0 p)))

/-- The first weight taken by the permutation, with the smaller pair of each four set to zero. -/
theorem value1 : V5 m ρ c main_v8 = fun i : S8192x2048.Idx =>
    kept (by decide) (fun j => (m ((c : Thread nD τ).loc main_arg0) (ix2 (i 0) j) : EReal)) (permOf (by decide) (K1 m c)) (i 1) := by
  refine (W5_arr m ρ c 2).trans ((arr2 (V4 m ρ) c (permOf (by decide) (K1 m c)) fun i p => ?_).trans ?_)
  · have e : V4 m ρ c main_v6_1 = V3 m ρ c main_v6_1 := W4_of m ρ c _ (by decide)
    rw [e, destBuf1]
    exact ofNat_dest_iff (by decide) (by decide) (K1 m c) i p
  · have e : V4 m ρ c main_arg0 = m ((c : Thread nD τ).loc main_arg0) := W4_args m ρ c _ (by decide)
    rw [e]

theorem key2_col (i : Fin 8192) : V7 m ρ c main_v13 (ix2 i 0) = FloatOps.hostUnary (F := Ideal) (φ := .f32) .sqrt (V6 m ρ c main_v9 (ix2 0 i)) := by
  have e : V7 m ρ c main_v13 = shapeCast S8192x1 (Host.sqrt (F := Ideal) (φ := .f32) (shapeCast S8192 (extractStridedSlice S1x8192 ![0, 0] (V6 m ρ c main_v9) slices_S8x8192_S1x8192_0_0) shapeCasts_S1x8192_S8192)) shapeCasts_S8192_S8192x1 := by
    show StableHlo.after hostOps4 (W6 m ρ c) _ = _
    after_results
    rfl
  rw [e]
  pointwise []

theorem key2_row (i : Fin 8192) : V7 m ρ c main_v14 (ix2 0 i) = FloatOps.hostUnary (F := Ideal) (φ := .f32) .sqrt (V6 m ρ c main_v9 (ix2 0 i)) := by
  have e : V7 m ρ c main_v14 = shapeCast S1x8192 (Host.sqrt (F := Ideal) (φ := .f32) (shapeCast S8192 (extractStridedSlice S1x8192 ![0, 0] (V6 m ρ c main_v9) slices_S8x8192_S1x8192_0_0) shapeCasts_S1x8192_S8192)) shapeCasts_S8192_S1x8192 := by
    show StableHlo.after hostOps4 (W6 m ρ c) _ = _
    after_results
    rfl
  rw [e]
  pointwise []

/-- The key of each column of the second weight. -/
def K2 (j : Fin 8192) : EReal := colNorm (fun r : Fin 2048 => m ((c : Thread nD τ).loc main_arg2) (ix2 r j)) (fun r => m ((c : Thread nD τ).loc main_arg3) (ix2 r j))

theorem key2_eq (j : Fin 8192) : FloatOps.hostUnary (F := Ideal) (φ := .f32) .sqrt (V6 m ρ c main_v9 (ix2 0 j)) = K2 m c j := by
  have e : V6 m ρ c main_v9 (ix2 0 j) = ∑ r, sq3 (V5 m ρ) c j r := by
    rw [← arr3 (V5 m ρ) c j]
    exact congrFun (W6_arr m ρ c 2) (ix2 0 j)
  rw [e]
  unfold K2 colNorm sq3
  rw [show V5 m ρ c main_arg2 = m ((c : Thread nD τ).loc main_arg2) from W5_args m ρ c _ (by decide),
    show V5 m ρ c main_arg3 = m ((c : Thread nD τ).loc main_arg3) from W5_args m ρ c _ (by decide)]

theorem permBuf2 : V8 m ρ c main_v15_0 = fun i : S1x8192.Idx => BitVec.ofNat 32 (permOf (by decide) (K2 m c) (i 1)).val :=
  (W8_arr m ρ c 2).trans (arr4_perm (V7 m ρ) c (K2 m c) (fun i => (key2_col m ρ c i).trans (key2_eq m ρ c i)) (fun i => (key2_row m ρ c i).trans (key2_eq m ρ c i)))

theorem destBuf2 : V8 m ρ c main_v15_1 = fun i : S8192x1.Idx => BitVec.ofNat 32 (destOf 8192 (rk (K2 m c) (i 0))) :=
  (W8_arr m ρ c 3).trans (arr4_dest (V7 m ρ) c (K2 m c) (fun i => (key2_col m ρ c i).trans (key2_eq m ρ c i)) (fun i => (key2_row m ρ c i).trans (key2_eq m ρ c i)))

/-- The permutation the second weight's columns are taken by, as the program returns it. -/
theorem order2 (p : Fin 8192) : V9 m ρ c main_v16 (ix1 p) = BitVec.ofNat 32 (permOf (by decide) (K2 m c) p).val := by
  have e : V9 m ρ c main_v16 = shapeCast S8192 (V8 m ρ c main_v15_0) shapeCasts_S1x8192_S8192 := by
    show StableHlo.after hostOps5 (W8 m ρ c) _ = _
    after_results
    rfl
  have h : ∀ y : S1x8192.Idx → BitVec 32, shapeCast S8192 y shapeCasts_S1x8192_S8192 (ix1 p) = y (ix2 0 p) := by
    intro y
    pointwise []
  exact (congrFun e (ix1 p)).trans ((h _).trans (congrFun (permBuf2 m ρ c) (ix2 0 p)))

/-- The second weight taken by the permutation, with the smaller pair of each four set to zero. -/
theorem value2 : V10 m ρ c main_v17 = fun i : S2048x8192.Idx =>
    kept (by decide) (fun j => (m ((c : Thread nD τ).loc main_arg2) (ix2 (i 0) j) : EReal)) (permOf (by decide) (K2 m c)) (i 1) := by
  refine (W10_arr m ρ c 2).trans ((arr5 (V9 m ρ) c (permOf (by decide) (K2 m c)) fun i p => ?_).trans ?_)
  · have e : V9 m ρ c main_v15_1 = V8 m ρ c main_v15_1 := W9_of m ρ c _ (by decide)
    rw [e, destBuf2]
    exact ofNat_dest_iff (by decide) (by decide) (K2 m c) i p
  · have e : V9 m ρ c main_arg2 = m ((c : Thread nD τ).loc main_arg2) := W9_args m ρ c _ (by decide)
    rw [e]

theorem final_value1 : W10 m ρ c (Proc.devRef .tc main_v8) = V5 m ρ c main_v8 :=
  (W10_of m ρ c _ (by decide)).trans ((W9_of m ρ c _ (by decide)).trans ((W8_of m ρ c _ (by decide)).trans ((W7_of m ρ c _ (by decide)).trans (W6_of m ρ c _ (by decide)))))

theorem final_order1 : W10 m ρ c (Proc.devRef .tc main_v7) = V4 m ρ c main_v7 :=
  (W10_of m ρ c _ (by decide)).trans ((W9_of m ρ c _ (by decide)).trans ((W8_of m ρ c _ (by decide)).trans ((W7_of m ρ c _ (by decide)).trans ((W6_of m ρ c _ (by decide)).trans (W5_of m ρ c _ (by decide))))))

theorem final_value2 : W10 m ρ c (Proc.devRef .tc main_v17) = V10 m ρ c main_v17 := rfl

theorem final_order2 : W10 m ρ c (Proc.devRef .tc main_v16) = V9 m ρ c main_v16 := W10_of m ρ c _ (by decide)

end Cert.KernelIdeal.Run

end
-- ==== Proof.RefLib.lean ====
/-
  Readings of the reference program's host operations at an index, each over any sizes: the sort of a vector, the
  interleaving of four columns, columns taken by a table, and the mask of the two greatest of four.
-/
module

public import proofs.«01_k».proof.Proof.Spec
public import Idealize.ShloMosaic.Lib.Pipeline.Value
public import Idealize.ShloMosaic.Lib.Pipeline.ValueKit
public import Idealize.ShloMosaic.Lib.SortFacts
public import Idealize.ShloMosaic.Lib.ValueIdx
public import Idealize.ShloMosaic.Lib.Pointwise
public import Idealize.ShloMosaic.PureOps.Ideal.Laws

@[expose] public section

noncomputable section

namespace Cert.Spec

open Idealize.ShloMosaic

/-- A vector carried along a sort of another: entry `r` is the one at the position the sort puts at place `r`. -/
theorem sort2_snd_at {n : ℕ} {α β : Type} (cmp : α × β → α × β → BitVec 1) (x : (⟨1, ![n]⟩ : Shape).Idx → α)
    (y : (⟨1, ![n]⟩ : Shape).Idx → β) (r : Fin n) :
    (Host.sort2 ⟨1, ![n]⟩ 0 cmp x y).2 (ix1 r)
      = y (ix1 (sortedFrom (fun k k' => cmp (x (ix1 k), y (ix1 k)) (x (ix1 k'), y (ix1 k')) == 1#1) r)) := by
  have e : ∀ (j : (⟨1, ![n]⟩ : Shape).Idx) (k : Fin n), j.along (0 : Fin 1) k = ix1 k := fun j k =>
    (Shape.Idx.along_rank1 j k).trans (funext fun a => by
      match a with
      | ⟨0, _⟩ => rfl)
  unfold Host.sort2
  rw [dif_pos (by show 0 < 1; decide)]
  show y ((ix1 r : (⟨1, ![n]⟩ : Shape).Idx).along (0 : Fin 1) (sortedFrom (n := n) (fun k k' =>
    cmp (x ((ix1 r : (⟨1, ![n]⟩ : Shape).Idx).along (0 : Fin 1) k), y ((ix1 r : (⟨1, ![n]⟩ : Shape).Idx).along (0 : Fin 1) k))
      (x ((ix1 r : (⟨1, ![n]⟩ : Shape).Idx).along (0 : Fin 1) k'), y ((ix1 r : (⟨1, ![n]⟩ : Shape).Idx).along (0 : Fin 1) k')) == 1#1) r)) = _
  simp only [e]

/-- Four columns side by side, read at column `k`. -/
theorem concat4_at {Q : ℕ} {α : Type} (f : Fin 4 → (⟨2, ![Q, 1]⟩ : Shape).Idx → α)
    (h : Shape.Concatenates [⟨2, ![Q, 1]⟩, ⟨2, ![Q, 1]⟩, ⟨2, ![Q, 1]⟩, ⟨2, ![Q, 1]⟩] ⟨2, ![Q, 4]⟩ 1) (i : Fin Q) (k : Fin 4) :
    concatenate ⟨2, ![Q, 4]⟩ 1 [⟨⟨2, ![Q, 1]⟩, f 0⟩, ⟨⟨2, ![Q, 1]⟩, f 1⟩, ⟨⟨2, ![Q, 1]⟩, f 2⟩, ⟨⟨2, ![Q, 1]⟩, f 3⟩] h (ix2 i k) = f k (ix2 i 0) :=
  concatenate_ofFn_unit_apply (t := ⟨2, ![Q, 4]⟩) (s₁ := ⟨2, ![Q, 1]⟩) 1 f h rfl rfl (ix2 i k) k rfl (ix2 i 0) fun b hb => by
    match b with
    | ⟨0, _⟩ => rfl
    | ⟨1, _⟩ => exact absurd rfl hb

/-- Every second entry from `s` on. -/
theorem slice2_at {H Q s : ℕ} {α : Type} (x : (⟨1, ![H]⟩ : Shape).Idx → α) (h : Shape.SlicesBy ⟨1, ![H]⟩ ![s] ![2] ⟨1, ![Q]⟩)
    (i : Fin Q) (hi : s + 2 * i.val < H) : Host.slice ⟨1, ![Q]⟩ ![s] ![2] x h (ix1 i) = x (ix1 ⟨s + 2 * i.val, hi⟩) := by
  unfold Host.slice
  refine congrArg x (funext fun a => ?_)
  match a with
  | ⟨0, _⟩ => rfl

/-- A vector read from its end. -/
theorem reverse_at {H : ℕ} {α : Type} (x : (⟨1, ![H]⟩ : Shape).Idx → α) (i : Fin H) :
    Host.reverse (s := ⟨1, ![H]⟩) [0] x (ix1 i) = x (ix1 i.rev) := by
  unfold Host.reverse
  refine congrArg x (funext fun a => ?_)
  match a with
  | ⟨0, _⟩ => rfl

/-- Columns taken by a table of positions: result column `p` is the column the table's entry `p` names, read signed and kept
    in range. -/
theorem gather_col {α : Type} {R N n w : ℕ} (d : GatherDims ⟨2, ![R, N]⟩ ⟨2, ![n, 1]⟩ ⟨2, ![R, n]⟩) (hoff : d.offsetDims = [0])
    (hcoll : d.collapsedSliceDims = [1]) (hob : d.operandBatchingDims = []) (hsim : d.startIndexMap = [1]) (hivd : d.indexVectorDim = 1)
    (x : (⟨2, ![R, N]⟩ : Shape).Idx → α) (idx : IVec ⟨2, ![n, 1]⟩ w) (r : Fin R) (p : Fin n) (q : Fin N)
    (hq : min (idx (ix2 p 0)).toInt.toNat (N - 1) = q.val) :
    Host.gather d x idx (ix2 r p) = x (ix2 r q) := by
  unfold Host.gather
  refine congrArg x (funext fun a => Fin.ext ?_)
  have hb : ∀ a, a ∉ d.operandBatchingDims := by rw [hob]; exact fun _ => List.not_mem_nil
  have hkept : d.sKept = [0] := by
    show Shape.kept _ (d.collapsedSliceDims ++ d.operandBatchingDims) = _
    rw [hcoll, hob]; rfl
  have hbatch : d.batchDims = [1] := by
    show Shape.kept _ d.offsetDims = _
    rw [hoff]; rfl
  match a with
  | ⟨0, _⟩ =>
    have hm : (0 : Fin 2) ∉ d.startIndexMap := by
      rw [hsim]
      show ¬ (0 : Fin 2) ∈ ([1] : List (Fin 2))
      decide
    have hk : (0 : Fin 2) ∈ d.sKept := by
      rw [hkept]
      show (0 : Fin 2) ∈ ([0] : List (Fin 2))
      decide
    show d.start _ idx (0 : Fin 2) + d.batchCoord _ (0 : Fin 2) + d.offCoord _ (0 : Fin 2) = r.val
    rw [GatherDims.batchCoord_eq_zero _ _ _ (hb 0)]
    unfold GatherDims.start GatherDims.offCoord
    rw [dif_neg hm, dif_pos hk]
    have e : ∀ X : Fin 2, X = 0 → ((ix2 r p : (⟨2, ![R, n]⟩ : Shape).Idx) X).val = r.val := by rintro _ rfl; rfl
    rw [e _ (by simp [hoff])]
    omega
  | ⟨1, _⟩ =>
    have hm : (1 : Fin 2) ∈ d.startIndexMap := by
      rw [hsim]
      show (1 : Fin 2) ∈ ([1] : List (Fin 2))
      decide
    have hk : (1 : Fin 2) ∉ d.sKept := by
      rw [hkept]
      show ¬ (1 : Fin 2) ∈ ([0] : List (Fin 2))
      decide
    have hsl : d.sliceSizes 1 = 1 := d.slice_collapsed 1 (by rw [hcoll]; exact List.mem_singleton.mpr rfl)
    show d.start _ idx (1 : Fin 2) + d.batchCoord _ (1 : Fin 2) + d.offCoord _ (1 : Fin 2) = q.val
    rw [GatherDims.batchCoord_eq_zero _ _ _ (hb 1), GatherDims.offCoord_eq_zero _ _ _ hk]
    unfold GatherDims.start
    rw [dif_pos hm]
    show min (idx _).toInt.toNat (N - d.sliceSizes 1) + 0 + 0 = _
    rw [hsl, Nat.add_zero, ← hq]
    refine congrArg (fun j => min (idx j).toInt.toNat (N - 1)) (funext fun b => Fin.ext ?_)
    match b with
    | ⟨0, _⟩ =>
      unfold GatherDims.siIdx
      rw [dif_neg (by rw [hivd]; simp)]
      unfold GatherDims.siCoord
      simp only [Fin.val_cast]
      have e : ∀ X : Fin 2, X = 1 → ((ix2 r p : (⟨2, ![R, n]⟩ : Shape).Idx) X).val = p.val := by rintro _ rfl; rfl
      exact e _ (by simp [hbatch])
    | ⟨1, _⟩ =>
      unfold GatherDims.siIdx
      rw [dif_pos (by rw [hivd])]
      show List.idxOf (1 : Fin 2) d.startIndexMap = 0
      rw [hsim]; simp

/-- A position's word is not negative, so the wrap of negative positions leaves it. -/
theorem wrap_at {q : ℕ} (hq : q < 2 ^ 31) (z : BitVec 32) :
    Scalar.select (IntOp.cmpi .slt (BitVec.ofNat 32 q) 0#32) z (BitVec.ofNat 32 q) = BitVec.ofNat 32 q := by
  have hi : (BitVec.ofNat 32 q).toInt = q := by
    rw [BitVec.toInt_eq_toNat_of_lt (by rw [BitVec.toNat_ofNat]; omega), BitVec.toNat_ofNat, Nat.mod_eq_of_lt (by omega)]
  have h : IntOp.cmpi .slt (BitVec.ofNat 32 q) 0#32 = 0#1 := by
    show BitVec.ofBool (decide ((BitVec.ofNat 32 q).toInt < (0#32 : BitVec 32).toInt)) = 0#1
    rw [hi, decide_eq_false (by show ¬ (q : ℤ) < 0; omega)]
    rfl
  rw [h]
  rfl

theorem toInt_word {q N : ℕ} (hN : N ≤ 2 ^ 31) (hq : q < N) : min (BitVec.ofNat 32 q).toInt.toNat (N - 1) = q := by
  rw [BitVec.toInt_eq_toNat_of_lt (by rw [BitVec.toNat_ofNat]; omega), BitVec.toNat_ofNat, Nat.mod_eq_of_lt (by omega)]
  show min q (N - 1) = q
  omega

/-- The places of the two greatest along the last axis. -/
theorem topK_snd_at {A B : ℕ} {α : Type} (gt : α → α → BitVec 1) (x : (⟨3, ![A, B, 4]⟩ : Shape).Idx → α)
    (h : Shape.Slices ⟨3, ![A, B, 4]⟩ (fun _ => 0) ⟨3, ![A, B, 2]⟩) (a : Fin A) (b : Fin B) (k : Fin 2) :
    (Host.topK ⟨3, ![A, B, 2]⟩ 2 gt x h).2 (ix3 a b k)
      = BitVec.ofNat 32 (sortedFrom (n := 4) (fun e e' => gt (x (ix3 a b e)) (x (ix3 a b e')) == 1#1) ⟨k.val, by omega⟩).val := by
  have e : ∀ (i : Fin 4) (k : Fin 4), (ix3 a b i : (⟨3, ![A, B, 4]⟩ : Shape).Idx).along (2 : Fin 3) k = ix3 a b k := fun i k => by
    funext c
    match c with
    | ⟨0, _⟩ => rfl
    | ⟨1, _⟩ => rfl
    | ⟨2, _⟩ => rfl
  unfold Host.topK
  dsimp only
  rw [extractStridedSlice_apply (fun _ => 0) _ h (ix3 a b k) (ix3 a b ⟨k.val, by omega⟩) (fun c => by
    match c with
    | ⟨0, _⟩ => exact (Nat.zero_add _).symm
    | ⟨1, _⟩ => exact (Nat.zero_add _).symm
    | ⟨2, _⟩ => exact (Nat.zero_add _).symm)]
  unfold Host.sort2
  rw [dif_pos (by show 2 < 3; decide)]
  show (if hd : 2 < 3 then iotaInDim ⟨3, ![A, B, 4]⟩ 32 ⟨2, hd⟩ ((ix3 a b ⟨k.val, by omega⟩ : (⟨3, ![A, B, 4]⟩ : Shape).Idx).along (2 : Fin 3) (sortedFrom (n := 4) (fun e e' =>
    gt (x ((ix3 a b ⟨k.val, by omega⟩ : (⟨3, ![A, B, 4]⟩ : Shape).Idx).along (2 : Fin 3) e)) (x ((ix3 a b ⟨k.val, by omega⟩ : (⟨3, ![A, B, 4]⟩ : Shape).Idx).along (2 : Fin 3) e')) == 1#1) ⟨k.val, by omega⟩)) else 0#32) = _
  rw [dif_pos (by decide)]
  simp only [e]
  rfl

/-- The mask's entry: one at the places of the two greatest, zero elsewhere. -/
theorem mask_at (a : Fin 4 → EReal) (b : Fin 4 → Fin 4 → Bool) (hb : ∀ x y, b x y = true ↔ a y < a x) (e : Fin 4) (s : Fin 2 → BitVec 32)
    (hs : ∀ k : Fin 2, s k = BitVec.ofNat 32 (sortedFrom b ⟨k.val, by omega⟩).val) :
    (∑ k : Fin 2, FloatOps.uitofp (F := Ideal) .f32 (IntOp.cmpi .eq (s k) (BitVec.ofNat 32 e.val)) : EReal)
      = (open Classical in if Keep a e then (1 : EReal) else 0) := by
  have hc : ∀ i j : Fin 4, (FloatOps.uitofp (F := Ideal) .f32 (IntOp.cmpi .eq (BitVec.ofNat 32 i.val) (BitVec.ofNat 32 j.val)) : EReal)
      = if j = i then (1 : EReal) else 0 := by
    intro i j
    have h2 : IntOp.cmpi .eq (BitVec.ofNat 32 i.val) (BitVec.ofNat 32 j.val) = if j = i then 1#1 else 0#1 := by
      revert i j; decide
    rw [h2]
    split
    · show (((1#1 : BitVec 1).toNat : ℝ) : EReal) = 1
      simp
    · show (((0#1 : BitVec 1).toNat : ℝ) : EReal) = 0
      simp
  have hne : sortedFrom b 0 ≠ sortedFrom b 1 := fun h => absurd (sortedFrom_injective b h) (by decide)
  rw [Fin.sum_univ_two, hs 0, hs 1, hc, hc]
  show (if e = sortedFrom b 0 then (1 : EReal) else 0) + (if e = sortedFrom b 1 then (1 : EReal) else 0) = _
  by_cases h0 : e = sortedFrom b 0
  · have h1 : ¬ e = sortedFrom b 1 := fun h => hne (h0.symm.trans h)
    rw [if_pos h0, if_neg h1, if_pos ((keep_iff a b hb e).mpr (Or.inl h0)), add_zero]
  · by_cases h1 : e = sortedFrom b 1
    · rw [if_neg h0, if_pos h1, if_pos ((keep_iff a b hb e).mpr (Or.inr h1)), zero_add]
    · rw [if_neg h0, if_neg h1, if_neg (fun h => ((keep_iff a b hb e).mp h).elim h0 h1), add_zero]

end Cert.Spec

end
-- ==== Proof.Ref.lean ====
/-
  What the reference program's four results hold at an index: the order its sort and its interleaving give, and the
  columns taken by that order with the two smallest of each four set to zero.
-/
module

public import proofs.«01_k».proof.Proof.Gen.ReferenceIdeal.Read
public import proofs.«01_k».proof.Proof.RefLib
public import proofs.«01_k».proof.Proof.Norm
public import proofs.«01_k».proof.Proof.Pay2

@[expose] public section

noncomputable section

namespace Cert.ReferenceIdeal.Read

open Cert.ReferenceIdeal Cert.ReferenceIdeal.Gen Cert.Spec
open Cert.KernelIdeal.Run (kept)
open Idealize.ShloMosaic Idealize.ShloMosaic.TcCoe Idealize.SL.Sem Idealize.ShloMosaic.StableHlo

/-- The comparator of the sort, at the extended reals: the first of its two operands is the lesser. -/
theorem before_iff (l r : Ideal .f32 × BitVec 32) : (comparator_f32_i32_d0 (F := Ideal) l r == 1#1) = true ↔ (l.1 : EReal) < r.1 := by
  have z : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have h1 : FloatOps.cmpf (F := Ideal) (φ := .f32) .une x x = 0#1 := by
      show BitVec.ofBool (decide (x ≠ x)) = 0#1
      rw [decide_eq_false (by simp)]
      rfl
    rw [h1]
    show Scalar.select (BitVec.ofBool (decide (x = (FloatOps.ofBits (F := Ideal) .f32 0x00000000#32 : EReal)))) _ x = x
    by_cases h : x = (FloatOps.ofBits (F := Ideal) .f32 0x00000000#32 : EReal)
    · rw [decide_eq_true h]
      exact h.symm
    · rw [decide_eq_false h]
      rfl
  have e : comparator_f32_i32_d0 (F := Ideal) l r = BitVec.ofBool (decide ((l.1 : EReal) < r.1)) := by
    show FloatOps.cmpfTotal (F := Ideal) (φ := .f32) .lt (Scalar.select _ _ _) (Scalar.select _ _ _) = _
    rw [z l.1, z r.1]
    rfl
  rw [e]
  by_cases h : (l.1 : EReal) < r.1 <;> simp [h]

/-- The comparator of the selection: the first of its two operands is the greater. -/
theorem greater_iff (x y : EReal) : (FloatOps.cmpfTotal (F := Ideal) (φ := .f32) .gt x y == 1#1) = true ↔ y < x := by
  show (BitVec.ofBool (decide (y < x)) == 1#1) = true ↔ y < x
  by_cases h : y < x <;> simp [h]

theorem zero_word : (FloatOps.ofBits (F := Ideal) .f32 0x00000000#32 : EReal) = 0 := by
  have h : constant (F := Ideal) S_ .f32 0x00000000#32 (fun a => a.elim0) = (0 : EReal) := by pointwise []
  exact h

section First

variable (x0 x1 : (⟨S8192x2048, .f32⟩ : BufTy).Contents (Elt Ideal))

/-- The key of each column of the first weight. -/
def key1 (j : Fin 2048) : EReal := colNorm (fun r : Fin 8192 => x0 (ix2 r j)) (fun r => x1 (ix2 r j))

theorem norm1 (j : Fin 2048) : val_main_v4 (F := Ideal) x0 x1 (ix1 j) = key1 x0 x1 j := by
  rw [val_main_v4_apply, val_main_v3_apply]
  have z : val_main_cst (F := Ideal) (Shape.Idx.first h_S_) = (0 : EReal) := zero_word
  rw [z, zero_add]
  unfold key1 colNorm
  refine congrArg _ (Finset.sum_congr rfl fun r _ => ?_)
  have e : idx_main_v3 (ix1 j) r = ix2 r j := funext fun a => by
    match a with
    | ⟨0, _⟩ => rfl
    | ⟨1, _⟩ => rfl
  rw [e]
  rfl

/-- The sort's order of two columns. -/
def less1 (k k' : Fin 2048) : Bool :=
  comparator_f32_i32_d0 (F := Ideal) (val_main_v5 (F := Ideal) x0 x1 (ix1 k), val_main_call0_v0 (F := Ideal) (ix1 k))
    (val_main_v5 (F := Ideal) x0 x1 (ix1 k'), val_main_call0_v0 (F := Ideal) (ix1 k')) == 1#1

theorem less1_iff (k k' : Fin 2048) : less1 x0 x1 k k' = true ↔ key1 x0 x1 k' < key1 x0 x1 k := by
  unfold less1
  rw [before_iff]
  show (-(val_main_v4 (F := Ideal) x0 x1 (ix1 k) : EReal)) < -(val_main_v4 (F := Ideal) x0 x1 (ix1 k') : EReal) ↔ _
  rw [norm1, norm1]
  exact EReal.neg_lt_neg_iff

theorem sorted1 (r : Fin 2048) : val_main_v6 (F := Ideal) x0 x1 (ix1 r) = BitVec.ofNat 32 (sortedFrom (less1 x0 x1) r).val :=
  sort2_snd_at _ _ _ r

theorem upper1 (i : Fin 1024) : val_main_v7 (F := Ideal) x0 x1 (ix1 i) = val_main_v6 (F := Ideal) x0 x1 (ix1 ⟨i.val, by omega⟩) := by
  rw [val_main_v7_apply]
  refine congrArg _ (funext fun a => ?_)
  match a with
  | ⟨0, _⟩ => rfl

theorem lower1 (i : Fin 1024) : val_main_v9 (F := Ideal) x0 x1 (ix1 i) = val_main_v6 (F := Ideal) x0 x1 (ix1 ⟨2048 - 1 - i.val, by omega⟩) := by
  unfold val_main_v9
  refine (reverse_at (H := 1024) _ i).trans ?_
  rw [val_main_v8_apply]
  refine congrArg _ (funext fun a => Fin.ext ?_)
  match a with
  | ⟨0, _⟩ =>
    show 1024 + (1024 - (i.val + 1)) = 2048 - 1 - i.val
    omega

theorem cols1 (i : Fin 512) (k : Fin 4) : val_main_v18 (F := Ideal) x0 x1 (ix2 i k)
    = val_main_v6 (F := Ideal) x0 x1 (ix1 ⟨srcRank 2048 (4 * i.val + k.val), srcRank_lt (by decide) (by omega)⟩) := by
  have c : val_main_v18 (F := Ideal) x0 x1 (ix2 i k) = (![val_main_v14 (F := Ideal) x0 x1, val_main_v15 (F := Ideal) x0 x1, val_main_v16 (F := Ideal) x0 x1, val_main_v17 (F := Ideal) x0 x1] : Fin 4 → S512x1.Idx → BitVec 32) k (ix2 i 0) := by
    unfold val_main_v18
    exact concat4_at (Q := 512) ![val_main_v14 (F := Ideal) x0 x1, val_main_v15 (F := Ideal) x0 x1, val_main_v16 (F := Ideal) x0 x1, val_main_v17 (F := Ideal) x0 x1] _ i k
  rw [c]
  have i0 : idx_main_v14 (ix2 i 0) = ix1 i := funext fun a => by
    match a with
    | ⟨0, _⟩ => rfl
  have hs : ∀ (t s : ℕ) (ht : t < 2048) (hr : s < 2048), srcRank 2048 t = s →
      val_main_v6 (F := Ideal) x0 x1 (ix1 ⟨s, hr⟩) = val_main_v6 (F := Ideal) x0 x1 (ix1 ⟨srcRank 2048 t, srcRank_lt (by decide) ht⟩) := by
    intro t s ht hr h
    exact congrArg (fun r => val_main_v6 (F := Ideal) x0 x1 (ix1 r)) (Fin.ext h.symm)
  have h0 : val_main_v14 (F := Ideal) x0 x1 (ix2 i 0) = val_main_v6 (F := Ideal) x0 x1 (ix1 ⟨srcRank 2048 (4 * i.val + 0), srcRank_lt (by decide) (by omega)⟩) := by
    refine (val_main_v14_apply x0 x1 _).trans ?_
    rw [i0]
    refine (slice2_at (H := 1024) (Q := 512) _ _ i (by omega)).trans ((upper1 x0 x1 _).trans (hs (4 * i.val + 0) (0 + 2 * i.val) (by omega) (by omega) ?_))
    unfold srcRank
    rw [if_pos (by show (4 * i.val + 0) % 4 = 0; omega)]
    show 2 * ((4 * i.val + 0) / 4) = 0 + 2 * i.val
    omega
  have h1 : val_main_v15 (F := Ideal) x0 x1 (ix2 i 0) = val_main_v6 (F := Ideal) x0 x1 (ix1 ⟨srcRank 2048 (4 * i.val + 1), srcRank_lt (by decide) (by omega)⟩) := by
    refine (val_main_v15_apply x0 x1 _).trans ?_
    rw [show idx_main_v15 (ix2 i 0) = ix1 i from i0]
    refine (slice2_at (H := 1024) (Q := 512) _ _ i (by omega)).trans ((upper1 x0 x1 _).trans (hs (4 * i.val + 1) (1 + 2 * i.val) (by omega) (by omega) ?_))
    unfold srcRank
    rw [if_neg (by show ¬ (4 * i.val + 1) % 4 = 0; omega), if_pos (by show (4 * i.val + 1) % 4 = 1; omega)]
    show 2 * ((4 * i.val + 1) / 4) + 1 = 1 + 2 * i.val
    omega
  have h2 : val_main_v16 (F := Ideal) x0 x1 (ix2 i 0) = val_main_v6 (F := Ideal) x0 x1 (ix1 ⟨srcRank 2048 (4 * i.val + 2), srcRank_lt (by decide) (by omega)⟩) := by
    refine (val_main_v16_apply x0 x1 _).trans ?_
    rw [show idx_main_v16 (ix2 i 0) = ix1 i from i0]
    refine (slice2_at (H := 1024) (Q := 512) _ _ i (by omega)).trans ((lower1 x0 x1 _).trans (hs (4 * i.val + 2) (2048 - 1 - (0 + 2 * i.val)) (by omega) (by omega) ?_))
    unfold srcRank
    rw [if_neg (by show ¬ (4 * i.val + 2) % 4 = 0; omega), if_neg (by show ¬ (4 * i.val + 2) % 4 = 1; omega), if_pos (by show (4 * i.val + 2) % 4 = 2; omega)]
    show 2048 - 1 - 2 * ((4 * i.val + 2) / 4) = 2048 - 1 - (0 + 2 * i.val)
    omega
  have h3 : val_main_v17 (F := Ideal) x0 x1 (ix2 i 0) = val_main_v6 (F := Ideal) x0 x1 (ix1 ⟨srcRank 2048 (4 * i.val + 3), srcRank_lt (by decide) (by omega)⟩) := by
    refine (val_main_v17_apply x0 x1 _).trans ?_
    rw [show idx_main_v17 (ix2 i 0) = ix1 i from i0]
    refine (slice2_at (H := 1024) (Q := 512) _ _ i (by omega)).trans ((lower1 x0 x1 _).trans (hs (4 * i.val + 3) (2048 - 1 - (1 + 2 * i.val)) (by omega) (by omega) ?_))
    unfold srcRank
    rw [if_neg (by show ¬ (4 * i.val + 3) % 4 = 0; omega), if_neg (by show ¬ (4 * i.val + 3) % 4 = 1; omega), if_neg (by show ¬ (4 * i.val + 3) % 4 = 2; omega)]
    show 2048 - 2 - 2 * ((4 * i.val + 3) / 4) = 2048 - 1 - (1 + 2 * i.val)
    omega
  obtain ⟨k, hk⟩ := k
  rcases k with _ | _ | _ | _ | k
  · exact h0
  · exact h1
  · exact h2
  · exact h3
  · exact absurd hk (by omega)

/-- The order the first weight's columns are taken in. -/
theorem order1 (p : Fin 2048) : val_main_v19 (F := Ideal) x0 x1 (ix1 p) = BitVec.ofNat 32 (permOf (by decide) (key1 x0 x1) p).val := by
  rw [val_main_v19_apply]
  have e : idx_main_v19 (ix1 p) = ix2 ⟨p.val / 4, by omega⟩ ⟨p.val % 4, by omega⟩ := funext fun a => by
    match a with
    | ⟨0, _⟩ => rfl
    | ⟨1, _⟩ => rfl
  rw [e, cols1, sorted1, ← permOf_eq (by decide) (key1 x0 x1) (less1 x0 x1) (less1_iff x0 x1) p]
  refine congrArg (fun r => BitVec.ofNat 32 (sortedFrom (less1 x0 x1) r).val) (Fin.ext ?_)
  show srcRank 2048 (4 * (p.val / 4) + p.val % 4) = srcRank 2048 p.val
  rw [Nat.div_add_mod]

theorem taken1 (r : Fin 8192) (p : Fin 2048) : val_main_v26 (F := Ideal) x0 x1 (ix2 r p) = x0 (ix2 r (permOf (by decide) (key1 x0 x1) p)) := by
  have e : val_main_v25 (F := Ideal) x0 x1 (ix2 p 0) = BitVec.ofNat 32 (permOf (by decide) (key1 x0 x1) p).val := by
    rw [val_main_v25_apply]
    have e1 : idx_main_v25 (ix2 p 0) = ix1 p := funext fun a => by
      match a with
      | ⟨0, _⟩ => rfl
    rw [e1, val_main_v24_apply, val_main_v21_apply, order1]
    exact wrap_at (by omega) _
  unfold val_main_v26
  refine gather_col (R := 8192) (N := 2048) (n := 2048) gather_S8192x2048_S2048x1_S8192x2048_0_1_n_n_1_1_81921 rfl rfl rfl rfl rfl _ _ r p _ ?_
  rw [e]
  exact toInt_word (by decide) (permOf (by decide) (key1 x0 x1) p).isLt

theorem fours1 (a : Fin 8192) (b : Fin 512) (e : Fin 4) : val_main_v54 (F := Ideal) x0 x1 (ix3 a b e)
    = x0 (ix2 a (permOf (by decide) (key1 x0 x1) ⟨4 * b.val + e.val, by omega⟩)) := by
  rw [val_main_v54_apply]
  have e1 : idx_main_v54 (ix3 a b e) = ix2 a ⟨4 * b.val + e.val, by omega⟩ := funext fun c => Fin.ext (by
    match c with
    | ⟨0, _⟩ =>
      show ((a.val * 512 + b.val) * 4 + e.val) / 2048 = a.val
      omega
    | ⟨1, _⟩ =>
      show ((a.val * 512 + b.val) * 4 + e.val) % 2048 = 4 * b.val + e.val
      omega)
  rw [e1, taken1]

/-- The selection's order of two places of a four. -/
def more1 (a : Fin 8192) (b : Fin 512) (e e' : Fin 4) : Bool :=
  FloatOps.cmpfTotal (F := Ideal) (φ := .f32) .gt (val_main_v55 (F := Ideal) x0 x1 (ix3 a b e)) (val_main_v55 (F := Ideal) x0 x1 (ix3 a b e')) == 1#1

theorem places1 (a : Fin 8192) (b : Fin 512) (k : Fin 2) : val_main_indices (F := Ideal) x0 x1 (ix3 a b k)
    = BitVec.ofNat 32 (sortedFrom (more1 x0 x1 a b) ⟨k.val, by omega⟩).val :=
  topK_snd_at (A := 8192) (B := 512) _ _ _ a b k

theorem hot1 (a : Fin 8192) (b : Fin 512) (k : Fin 2) (e : Fin 4) (i : S8192x512x2x4.Idx) (h0 : (i 0).val = a.val) (h1 : (i 1).val = b.val)
    (h2 : (i 2).val = k.val) (h3 : (i 3).val = e.val) : val_main_v56 (F := Ideal) x0 x1 i
    = FloatOps.uitofp (F := Ideal) .f32 (IntOp.cmpi .eq (val_main_indices (F := Ideal) x0 x1 (ix3 a b k)) (BitVec.ofNat 32 e.val)) := by
  rw [val_main_v56_apply, val_main_call4_v4_apply, val_main_call4_v2_apply, val_main_call4_v0_apply, val_main_call4_v3_apply, val_main_call4_v1_apply]
  have e1 : idx_main_call4_v0 (idx_main_call4_v2 i) = ix3 a b k := funext fun c => Fin.ext (by
    match c with
    | ⟨0, _⟩ => exact h0
    | ⟨1, _⟩ => exact h1
    | ⟨2, _⟩ => exact h2)
  have e2 : (idx_main_call4_v3 i 3).val = e.val := h3
  rw [e1, e2]

theorem mask1 (a : Fin 8192) (b : Fin 512) (e : Fin 4) : val_main_v57 (F := Ideal) x0 x1 (ix3 a b e)
    = (open Classical in if Keep (fun k : Fin 4 => (FloatOps.absf (F := Ideal) (φ := .f32) (x0 (ix2 a (permOf (by decide) (key1 x0 x1) ⟨4 * b.val + k.val, by omega⟩))) : EReal)) e
      then (1 : EReal) else 0) := by
  rw [val_main_v57_apply]
  have z : val_main_cst_4 (F := Ideal) (Shape.Idx.first h_S_) = (0 : EReal) := zero_word
  rw [z, zero_add]
  rw [← mask_at _ (more1 x0 x1 a b) (fun e e' => ?_) e (fun k => val_main_indices (F := Ideal) x0 x1 (ix3 a b k)) (fun k => places1 x0 x1 a b k)]
  · exact Finset.sum_congr rfl fun k _ => hot1 x0 x1 a b k e _ rfl rfl rfl rfl
  · unfold more1
    rw [greater_iff, val_main_v55_apply, val_main_v55_apply, fours1, fours1]
    rfl

/-- The first weight taken by the order, with the two smallest of each four set to zero. -/
theorem value1 (a : Fin 8192) (p : Fin 2048) : val_main_v59 (F := Ideal) x0 x1 (ix2 a p)
    = kept (by decide) (fun j => (x0 (ix2 a j) : EReal)) (permOf (by decide) (key1 x0 x1)) p := by
  rw [val_main_v59_apply]
  have e1 : idx_main_v59 (ix2 a p) = ix3 a ⟨p.val / 4, by omega⟩ ⟨p.val % 4, by omega⟩ := funext fun c => Fin.ext (by
    match c with
    | ⟨0, _⟩ =>
      show (a.val * 2048 + p.val) / 2048 = a.val
      omega
    | ⟨1, _⟩ =>
      show (a.val * 2048 + p.val) / 4 % 512 = p.val / 4
      omega
    | ⟨2, _⟩ =>
      show (a.val * 2048 + p.val) % 4 = p.val % 4
      omega)
  rw [e1, val_main_v58_apply, fours1, mask1]
  have ep : (⟨4 * (p.val / 4) + p.val % 4, by omega⟩ : Fin 2048) = p := Fin.ext (Nat.div_add_mod _ _)
  unfold kept
  show ((x0 (ix2 a (permOf (by decide) (key1 x0 x1) ⟨4 * (p.val / 4) + p.val % 4, by omega⟩)) : EReal) * _ : EReal) = _
  rw [ep]
  split
  · exact mul_one _
  · exact mul_zero _

end First

section Second

variable (x2 x3 : (⟨S2048x8192, .f32⟩ : BufTy).Contents (Elt Ideal))

/-- The key of each column of the second weight. -/
def key2 (j : Fin 8192) : EReal := colNorm (fun r : Fin 2048 => x2 (ix2 r j)) (fun r => x3 (ix2 r j))

theorem norm2 (j : Fin 8192) : val_main_v31 (F := Ideal) x2 x3 (ix1 j) = key2 x2 x3 j := by
  rw [val_main_v31_apply, val_main_v30_apply]
  have z : val_main_cst_1 (F := Ideal) (Shape.Idx.first h_S_) = (0 : EReal) := zero_word
  rw [z, zero_add]
  unfold key2 colNorm
  refine congrArg _ (Finset.sum_congr rfl fun r _ => ?_)
  have e : idx_main_v30 (ix1 j) r = ix2 r j := funext fun a => by
    match a with
    | ⟨0, _⟩ => rfl
    | ⟨1, _⟩ => rfl
  rw [e]
  rfl

/-- The sort's order of two columns. -/
def less2 (k k' : Fin 8192) : Bool :=
  comparator_f32_i32_d0 (F := Ideal) (val_main_v32 (F := Ideal) x2 x3 (ix1 k), val_main_call2_v0 (F := Ideal) (ix1 k))
    (val_main_v32 (F := Ideal) x2 x3 (ix1 k'), val_main_call2_v0 (F := Ideal) (ix1 k')) == 1#1

theorem less2_iff (k k' : Fin 8192) : less2 x2 x3 k k' = true ↔ key2 x2 x3 k' < key2 x2 x3 k := by
  unfold less2
  rw [before_iff]
  show (-(val_main_v31 (F := Ideal) x2 x3 (ix1 k) : EReal)) < -(val_main_v31 (F := Ideal) x2 x3 (ix1 k') : EReal) ↔ _
  rw [norm2, norm2]
  exact EReal.neg_lt_neg_iff

theorem sorted2 (r : Fin 8192) : val_main_v33 (F := Ideal) x2 x3 (ix1 r) = BitVec.ofNat 32 (sortedFrom (less2 x2 x3) r).val :=
  sort2_snd_at _ _ _ r

theorem upper2 (i : Fin 4096) : val_main_v34 (F := Ideal) x2 x3 (ix1 i) = val_main_v33 (F := Ideal) x2 x3 (ix1 ⟨i.val, by omega⟩) := by
  rw [val_main_v34_apply]
  refine congrArg _ (funext fun a => ?_)
  match a with
  | ⟨0, _⟩ => rfl

theorem lower2 (i : Fin 4096) : val_main_v36 (F := Ideal) x2 x3 (ix1 i) = val_main_v33 (F := Ideal) x2 x3 (ix1 ⟨8192 - 1 - i.val, by omega⟩) := by
  unfold val_main_v36
  refine (reverse_at (H := 4096) _ i).trans ?_
  rw [val_main_v35_apply]
  refine congrArg _ (funext fun a => Fin.ext ?_)
  match a with
  | ⟨0, _⟩ =>
    show 4096 + (4096 - (i.val + 1)) = 8192 - 1 - i.val
    omega

theorem cols2 (i : Fin 2048) (k : Fin 4) : val_main_v45 (F := Ideal) x2 x3 (ix2 i k)
    = val_main_v33 (F := Ideal) x2 x3 (ix1 ⟨srcRank 8192 (4 * i.val + k.val), srcRank_lt (by decide) (by omega)⟩) := by
  have c : val_main_v45 (F := Ideal) x2 x3 (ix2 i k) = (![val_main_v41 (F := Ideal) x2 x3, val_main_v42 (F := Ideal) x2 x3, val_main_v43 (F := Ideal) x2 x3, val_main_v44 (F := Ideal) x2 x3] : Fin 4 → S2048x1.Idx → BitVec 32) k (ix2 i 0) := by
    unfold val_main_v45
    exact concat4_at (Q := 2048) ![val_main_v41 (F := Ideal) x2 x3, val_main_v42 (F := Ideal) x2 x3, val_main_v43 (F := Ideal) x2 x3, val_main_v44 (F := Ideal) x2 x3] _ i k
  rw [c]
  have i0 : idx_main_v41 (ix2 i 0) = ix1 i := funext fun a => by
    match a with
    | ⟨0, _⟩ => rfl
  have hs : ∀ (t s : ℕ) (ht : t < 8192) (hr : s < 8192), srcRank 8192 t = s →
      val_main_v33 (F := Ideal) x2 x3 (ix1 ⟨s, hr⟩) = val_main_v33 (F := Ideal) x2 x3 (ix1 ⟨srcRank 8192 t, srcRank_lt (by decide) ht⟩) := by
    intro t s ht hr h
    exact congrArg (fun r => val_main_v33 (F := Ideal) x2 x3 (ix1 r)) (Fin.ext h.symm)
  have h0 : val_main_v41 (F := Ideal) x2 x3 (ix2 i 0) = val_main_v33 (F := Ideal) x2 x3 (ix1 ⟨srcRank 8192 (4 * i.val + 0), srcRank_lt (by decide) (by omega)⟩) := by
    refine (val_main_v41_apply x2 x3 _).trans ?_
    rw [i0]
    refine (slice2_at (H := 4096) (Q := 2048) _ _ i (by omega)).trans ((upper2 x2 x3 _).trans (hs (4 * i.val + 0) (0 + 2 * i.val) (by omega) (by omega) ?_))
    unfold srcRank
    rw [if_pos (by show (4 * i.val + 0) % 4 = 0; omega)]
    show 2 * ((4 * i.val + 0) / 4) = 0 + 2 * i.val
    omega
  have h1 : val_main_v42 (F := Ideal) x2 x3 (ix2 i 0) = val_main_v33 (F := Ideal) x2 x3 (ix1 ⟨srcRank 8192 (4 * i.val + 1), srcRank_lt (by decide) (by omega)⟩) := by
    refine (val_main_v42_apply x2 x3 _).trans ?_
    rw [show idx_main_v42 (ix2 i 0) = ix1 i from i0]
    refine (slice2_at (H := 4096) (Q := 2048) _ _ i (by omega)).trans ((upper2 x2 x3 _).trans (hs (4 * i.val + 1) (1 + 2 * i.val) (by omega) (by omega) ?_))
    unfold srcRank
    rw [if_neg (by show ¬ (4 * i.val + 1) % 4 = 0; omega), if_pos (by show (4 * i.val + 1) % 4 = 1; omega)]
    show 2 * ((4 * i.val + 1) / 4) + 1 = 1 + 2 * i.val
    omega
  have h2 : val_main_v43 (F := Ideal) x2 x3 (ix2 i 0) = val_main_v33 (F := Ideal) x2 x3 (ix1 ⟨srcRank 8192 (4 * i.val + 2), srcRank_lt (by decide) (by omega)⟩) := by
    refine (val_main_v43_apply x2 x3 _).trans ?_
    rw [show idx_main_v43 (ix2 i 0) = ix1 i from i0]
    refine (slice2_at (H := 4096) (Q := 2048) _ _ i (by omega)).trans ((lower2 x2 x3 _).trans (hs (4 * i.val + 2) (8192 - 1 - (0 + 2 * i.val)) (by omega) (by omega) ?_))
    unfold srcRank
    rw [if_neg (by show ¬ (4 * i.val + 2) % 4 = 0; omega), if_neg (by show ¬ (4 * i.val + 2) % 4 = 1; omega), if_pos (by show (4 * i.val + 2) % 4 = 2; omega)]
    show 8192 - 1 - 2 * ((4 * i.val + 2) / 4) = 8192 - 1 - (0 + 2 * i.val)
    omega
  have h3 : val_main_v44 (F := Ideal) x2 x3 (ix2 i 0) = val_main_v33 (F := Ideal) x2 x3 (ix1 ⟨srcRank 8192 (4 * i.val + 3), srcRank_lt (by decide) (by omega)⟩) := by
    refine (val_main_v44_apply x2 x3 _).trans ?_
    rw [show idx_main_v44 (ix2 i 0) = ix1 i from i0]
    refine (slice2_at (H := 4096) (Q := 2048) _ _ i (by omega)).trans ((lower2 x2 x3 _).trans (hs (4 * i.val + 3) (8192 - 1 - (1 + 2 * i.val)) (by omega) (by omega) ?_))
    unfold srcRank
    rw [if_neg (by show ¬ (4 * i.val + 3) % 4 = 0; omega), if_neg (by show ¬ (4 * i.val + 3) % 4 = 1; omega), if_neg (by show ¬ (4 * i.val + 3) % 4 = 2; omega)]
    show 8192 - 2 - 2 * ((4 * i.val + 3) / 4) = 8192 - 1 - (1 + 2 * i.val)
    omega
  obtain ⟨k, hk⟩ := k
  rcases k with _ | _ | _ | _ | k
  · exact h0
  · exact h1
  · exact h2
  · exact h3
  · exact absurd hk (by omega)

/-- The order the second weight's columns are taken in. -/
theorem order2 (p : Fin 8192) : val_main_v46 (F := Ideal) x2 x3 (ix1 p) = BitVec.ofNat 32 (permOf (by decide) (key2 x2 x3) p).val := by
  rw [val_main_v46_apply]
  have e : idx_main_v46 (ix1 p) = ix2 ⟨p.val / 4, by omega⟩ ⟨p.val % 4, by omega⟩ := funext fun a => by
    match a with
    | ⟨0, _⟩ => rfl
    | ⟨1, _⟩ => rfl
  rw [e, cols2, sorted2, ← permOf_eq (by decide) (key2 x2 x3) (less2 x2 x3) (less2_iff x2 x3) p]
  refine congrArg (fun r => BitVec.ofNat 32 (sortedFrom (less2 x2 x3) r).val) (Fin.ext ?_)
  show srcRank 8192 (4 * (p.val / 4) + p.val % 4) = srcRank 8192 p.val
  rw [Nat.div_add_mod]

theorem taken2 (r : Fin 2048) (p : Fin 8192) : val_main_v53 (F := Ideal) x2 x3 (ix2 r p) = x2 (ix2 r (permOf (by decide) (key2 x2 x3) p)) := by
  have e : val_main_v52 (F := Ideal) x2 x3 (ix2 p 0) = BitVec.ofNat 32 (permOf (by decide) (key2 x2 x3) p).val := by
    rw [val_main_v52_apply]
    have e1 : idx_main_v52 (ix2 p 0) = ix1 p := funext fun a => by
      match a with
      | ⟨0, _⟩ => rfl
    rw [e1, val_main_v51_apply, val_main_v48_apply, order2]
    exact wrap_at (by omega) _
  unfold val_main_v53
  refine gather_col (R := 2048) (N := 8192) (n := 8192) gather_S2048x8192_S8192x1_S2048x8192_0_1_n_n_1_1_20481 rfl rfl rfl rfl rfl _ _ r p _ ?_
  rw [e]
  exact toInt_word (by decide) (permOf (by decide) (key2 x2 x3) p).isLt

theorem fours2 (a : Fin 2048) (b : Fin 2048) (e : Fin 4) : val_main_v60 (F := Ideal) x2 x3 (ix3 a b e)
    = x2 (ix2 a (permOf (by decide) (key2 x2 x3) ⟨4 * b.val + e.val, by omega⟩)) := by
  rw [val_main_v60_apply]
  have e1 : idx_main_v60 (ix3 a b e) = ix2 a ⟨4 * b.val + e.val, by omega⟩ := funext fun c => Fin.ext (by
    match c with
    | ⟨0, _⟩ =>
      show ((a.val * 2048 + b.val) * 4 + e.val) / 8192 = a.val
      omega
    | ⟨1, _⟩ =>
      show ((a.val * 2048 + b.val) * 4 + e.val) % 8192 = 4 * b.val + e.val
      omega)
  rw [e1, taken2]

/-- The selection's order of two places of a four. -/
def more2 (a : Fin 2048) (b : Fin 2048) (e e' : Fin 4) : Bool :=
  FloatOps.cmpfTotal (F := Ideal) (φ := .f32) .gt (val_main_v61 (F := Ideal) x2 x3 (ix3 a b e)) (val_main_v61 (F := Ideal) x2 x3 (ix3 a b e')) == 1#1

theorem places2 (a : Fin 2048) (b : Fin 2048) (k : Fin 2) : val_main_indices_6 (F := Ideal) x2 x3 (ix3 a b k)
    = BitVec.ofNat 32 (sortedFrom (more2 x2 x3 a b) ⟨k.val, by omega⟩).val :=
  topK_snd_at (A := 2048) (B := 2048) _ _ _ a b k

theorem hot2 (a : Fin 2048) (b : Fin 2048) (k : Fin 2) (e : Fin 4) (i : S2048x2048x2x4.Idx) (h0 : (i 0).val = a.val) (h1 : (i 1).val = b.val)
    (h2 : (i 2).val = k.val) (h3 : (i 3).val = e.val) : val_main_v62 (F := Ideal) x2 x3 i
    = FloatOps.uitofp (F := Ideal) .f32 (IntOp.cmpi .eq (val_main_indices_6 (F := Ideal) x2 x3 (ix3 a b k)) (BitVec.ofNat 32 e.val)) := by
  rw [val_main_v62_apply, val_main_call5_v4_apply, val_main_call5_v2_apply, val_main_call5_v0_apply, val_main_call5_v3_apply, val_main_call5_v1_apply]
  have e1 : idx_main_call5_v0 (idx_main_call5_v2 i) = ix3 a b k := funext fun c => Fin.ext (by
    match c with
    | ⟨0, _⟩ => exact h0
    | ⟨1, _⟩ => exact h1
    | ⟨2, _⟩ => exact h2)
  have e2 : (idx_main_call5_v3 i 3).val = e.val := h3
  rw [e1, e2]

theorem mask2 (a : Fin 2048) (b : Fin 2048) (e : Fin 4) : val_main_v63 (F := Ideal) x2 x3 (ix3 a b e)
    = (open Classical in if Keep (fun k : Fin 4 => (FloatOps.absf (F := Ideal) (φ := .f32) (x2 (ix2 a (permOf (by decide) (key2 x2 x3) ⟨4 * b.val + k.val, by omega⟩))) : EReal)) e
      then (1 : EReal) else 0) := by
  rw [val_main_v63_apply]
  have z : val_main_cst_7 (F := Ideal) (Shape.Idx.first h_S_) = (0 : EReal) := zero_word
  rw [z, zero_add]
  rw [← mask_at _ (more2 x2 x3 a b) (fun e e' => ?_) e (fun k => val_main_indices_6 (F := Ideal) x2 x3 (ix3 a b k)) (fun k => places2 x2 x3 a b k)]
  · exact Finset.sum_congr rfl fun k _ => hot2 x2 x3 a b k e _ rfl rfl rfl rfl
  · unfold more2
    rw [greater_iff, val_main_v61_apply, val_main_v61_apply, fours2, fours2]
    rfl

/-- The second weight taken by the order, with the two smallest of each four set to zero. -/
theorem value2 (a : Fin 2048) (p : Fin 8192) : val_main_v65 (F := Ideal) x2 x3 (ix2 a p)
    = kept (by decide) (fun j => (x2 (ix2 a j) : EReal)) (permOf (by decide) (key2 x2 x3)) p := by
  rw [val_main_v65_apply]
  have e1 : idx_main_v65 (ix2 a p) = ix3 a ⟨p.val / 4, by omega⟩ ⟨p.val % 4, by omega⟩ := funext fun c => Fin.ext (by
    match c with
    | ⟨0, _⟩ =>
      show (a.val * 8192 + p.val) / 8192 = a.val
      omega
    | ⟨1, _⟩ =>
      show (a.val * 8192 + p.val) / 4 % 2048 = p.val / 4
      omega
    | ⟨2, _⟩ =>
      show (a.val * 8192 + p.val) % 4 = p.val % 4
      omega)
  rw [e1, val_main_v64_apply, fours2, mask2]
  have ep : (⟨4 * (p.val / 4) + p.val % 4, by omega⟩ : Fin 8192) = p := Fin.ext (Nat.div_add_mod _ _)
  unfold kept
  show ((x2 (ix2 a (permOf (by decide) (key2 x2 x3) ⟨4 * (p.val / 4) + p.val % 4, by omega⟩)) : EReal) * _ : EReal) = _
  rw [ep]
  split
  · exact mul_one _
  · exact mul_zero _

end Second

end Cert.ReferenceIdeal.Read

end
-- ==== Proof.lean ====
module

public import proofs.«01_k».proof.Defs
public import proofs.«01_k».proof.Proof.Launched
public import proofs.«01_k».proof.Proof.Transport
public import proofs.«01_k».proof.Proof.Final
public import proofs.«01_k».proof.Proof.Ref
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel's run is the idealized program's: the two are the same text. -/
theorem quiescent_kernel : Cert.quiescent_Kernel := fun m g _ => by
  rw [Cert.Transport.run_same, Cert.Transport.run_eq]
  exact Cert.KernelIdeal.Run.frame (F := Bits) m g

theorem quiescent_kernelIdeal : Cert.quiescent_KernelIdeal := fun m g _ => Cert.KernelIdeal.Run.frame m g

/-- The reference declares no semaphore and writes none of its arguments. -/
theorem quiescent_referenceIdeal : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

section Values

open Cert.KernelIdeal.Run

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem agree_value1 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v59 m' c = W10 m g c (Proc.devRef .tc Cert.KernelIdeal.main_v8) := by
  rw [Cert.ReferenceIdeal.Read.val_main_v59_eq, h0, h1, final_value1, Cert.KernelIdeal.Run.value1]
  funext i
  obtain ⟨a, p, rfl⟩ : ∃ (a : Fin 8192) (p : Fin 2048), i = ix2 a p := ⟨i 0, i 1, eq_ix2 i⟩
  exact Cert.ReferenceIdeal.Read.value1 _ _ a p

theorem agree_value2 (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v65 m' c = W10 m g c (Proc.devRef .tc Cert.KernelIdeal.main_v17) := by
  rw [Cert.ReferenceIdeal.Read.val_main_v65_eq, h2, h3, final_value2, Cert.KernelIdeal.Run.value2]
  funext i
  obtain ⟨a, p, rfl⟩ : ∃ (a : Fin 2048) (p : Fin 8192), i = ix2 a p := ⟨i 0, i 1, eq_ix2 i⟩
  exact Cert.ReferenceIdeal.Read.value2 _ _ a p

theorem agree_order1 : Cert.ReferenceIdeal.Read.val_main_v19 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) = W10 m g c (Proc.devRef .tc Cert.KernelIdeal.main_v7) := by
  rw [final_order1]
  funext i
  obtain ⟨p, rfl⟩ : ∃ p : Fin 2048, i = ix1 p := ⟨i 0, eq_ix1 i⟩
  exact (Cert.ReferenceIdeal.Read.order1 _ _ p).trans (Cert.KernelIdeal.Run.order1 m g c p).symm

theorem agree_order2 : Cert.ReferenceIdeal.Read.val_main_v46 (F := Ideal) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) = W10 m g c (Proc.devRef .tc Cert.KernelIdeal.main_v16) := by
  rw [final_order2]
  funext i
  obtain ⟨p, rfl⟩ : ∃ p : Fin 8192, i = ix1 p := ⟨i 0, eq_ix1 i⟩
  exact (Cert.ReferenceIdeal.Read.order2 _ _ p).trans (Cert.KernelIdeal.Run.order2 m g c p).symm

end Values

/-- The idealized kernel and the reference, from equal arguments, end with equal results. -/
theorem algebraic : Cert.algebraic_KernelIdeal_ReferenceIdeal := fun m g m' g' _ hargs => by
  refine ⟨fun c => Cert.KernelIdeal.Run.W10 m g c (Proc.devRef .tc Cert.KernelIdeal.main_v8),
    fun c => Cert.KernelIdeal.Run.W10 m g c (Proc.devRef .tc Cert.KernelIdeal.main_v17),
    fun c => Cert.KernelIdeal.Run.W10 m g c (Proc.devRef .tc Cert.KernelIdeal.main_v7),
    fun c => Cert.KernelIdeal.Run.W10 m g c (Proc.devRef .tc Cert.KernelIdeal.main_v16), ?_, ?_⟩
  · refine (θ_run Cert.KernelIdeal.defs _ _).mono (fun r h c => ?_) (Cert.KernelIdeal.Run.run (F := Ideal) m g)
    have hm := fun (b : Ref Cert.KernelIdeal.sig .tc) hb => h.1 c _ (Cert.KernelIdeal.Run.mem_uc b hb)
    exact ⟨hm _ (by decide), hm _ (by decide), hm _ (by decide), hm _ (by decide),
      (hm _ (by decide)).trans (Cert.KernelIdeal.Run.W10_main_arg0 m g c), (hm _ (by decide)).trans (Cert.KernelIdeal.Run.W10_main_arg1 m g c),
      (hm _ (by decide)).trans (Cert.KernelIdeal.Run.W10_main_arg2 m g c), (hm _ (by decide)).trans (Cert.KernelIdeal.Run.W10_main_arg3 m g c)⟩
  · refine (θ_run Cert.ReferenceIdeal.defs _ _).mono (fun r h c => ?_) (Cert.ReferenceIdeal.Value.run (F := Ideal) m' g')
    obtain ⟨h0, h1, h2, h3⟩ := hargs c
    obtain ⟨r0, r1, r2, r3, ha⟩ := h c
    refine ⟨r0.trans (agree_value1 m g m' c h0 h1), r1.trans (agree_value2 m g m' c h2 h3), r2.trans ?_, r3.trans ?_, ha⟩
    · rw [Cert.ReferenceIdeal.Read.val_main_v19_eq, h0, h1]
      exact agree_order1 m g c
    · rw [Cert.ReferenceIdeal.Read.val_main_v46_eq, h2, h3]
      exact agree_order2 m g c

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
